-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel) (hPre_sorted_segments := hPre_sorted_segments)
    ∧ quiescent_KernelIdeal (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal (hKernelIdeal := hKernelIdeal) (hReferenceIdeal := hReferenceIdeal) (hPre_sorted_segments := hPre_sorted_segments)
-- ==== Pre_sorted_segments.lean ====
abbrev S32768x128 : Shape := ⟨2, ![32768, 128]⟩
abbrev S32768x3 : Shape := ⟨2, ![32768, 3]⟩
abbrev S32768 : Shape := ⟨1, ![32768]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩
abbrev S32767 : Shape := ⟨1, ![32767]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_1 : S32768.Slices ![1] S32767
  slices_S32768_S32767_0 : S32768.Slices ![0] S32767
  reducesTo_S32767_S_d0 : S32767.ReducesTo [0] S_

variable [Facts]

def fn {F : FTy → Type} [FloatOps F] (main_arg0 : FVec F S32768x128 .f32) (main_arg1 : FVec F S32768x3 .f32) (main_arg2 : IVec S32768 32) (main_arg3 : FVec F S128x128 .f32) (main_arg4 : FVec F S128 .f32) (main_arg5 : FVec F S128x256 .f32) (main_arg6 : FVec F S256 .f32) : IVec S_ 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 32 := constantI S_ 32 16#32
  let main_v2 : IVec S32768 32 := broadcastInDim S32768 ![] bcast_S_S32768 main_c_0
  let main_v3 : IVec S32768 1 := cmpi .slt main_arg2 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_v6 : IVec S32767 32 := (extractStridedSlice S32767 ![1] · slices_S32768_S32767_1) main_arg2
  let main_v7 : IVec S32767 32 := (extractStridedSlice S32767 ![0] · slices_S32768_S32767_0) main_arg2
  let main_v8 : IVec S32767 1 := cmpi .sge main_v6 main_v7
  let main_c_2 : IVec S_ 1 := constantI S_ 1 1#1
  let main_v9 : IVec S_ 1 := (fun x v => Host.reduce IntOp.andi x v reducesTo_S32767_S_d0 h_S_) main_v8 main_c_2
  let main_v10 : IVec S_ 1 := andi main_v5 main_v9
  main_v10
-- ==== Kernel.lean ====
abbrev S32768x128 : Shape := ⟨2, ![32768, 128]⟩
abbrev S32768x3 : Shape := ⟨2, ![32768, 3]⟩
abbrev S32768 : Shape := ⟨1, ![32768]⟩
abbrev S128x128 : Shape := ⟨2, ![128, 128]⟩
abbrev S128 : Shape := ⟨1, ![128]⟩
abbrev S128x256 : Shape := ⟨2, ![128, 256]⟩
abbrev S256 : Shape := ⟨1, ![256]⟩
abbrev S4x16x512 : Shape := ⟨3, ![4, 16, 512]⟩
abbrev S1x128 : Shape := ⟨2, ![1, 128]⟩
abbrev S1x256 : Shape := ⟨2, ![1, 256]⟩
abbrev S16x256 : Shape := ⟨2, ![16, 256]⟩
abbrev S16x3 : Shape := ⟨2, ![16, 3]⟩
abbrev S8192x128 : Shape := ⟨2, ![8192, 128]⟩
abbrev S8192x3 : Shape := ⟨2, ![8192, 3]⟩
abbrev S1x16x512 : Shape := ⟨3, ![1, 16, 512]⟩
abbrev S8192x256 : Shape := ⟨2, ![8192, 256]⟩
abbrev S16x512 : Shape := ⟨2, ![16, 512]⟩
abbrev S16x512x256 : Shape := ⟨3, ![16, 512, 256]⟩
abbrev S16x512x3 : Shape := ⟨3, ![16, 512, 3]⟩
abbrev S16x1 : Shape := ⟨2, ![16, 1]⟩
abbrev S16x16 : Shape := ⟨2, ![16, 16]⟩
abbrev S3 : Shape := ⟨1, ![3]⟩
abbrev S1x3 : Shape := ⟨2, ![1, 3]⟩
abbrev S1x1 : Shape := ⟨2, ![1, 1]⟩
abbrev S512x1 : Shape := ⟨2, ![512, 1]⟩
abbrev S1 : Shape := ⟨1, ![1]⟩
abbrev S1x1x1 : Shape := ⟨3, ![1, 1, 1]⟩
abbrev S512x128 : Shape := ⟨2, ![512, 128]⟩
abbrev S512x256 : Shape := ⟨2, ![512, 256]⟩
abbrev S512x3 : Shape := ⟨2, ![512, 3]⟩
abbrev S16 : Shape := ⟨1, ![16]⟩

abbrev nBuf : Space → Nat
  | .hbm => 13
  | .vmem => 12
  | .smem => 0
  | _ => 0

abbrev bufTy : (tb : Table) → Fin (tcTables nBuf tb) → BufTy
  | .hbm, ⟨0, _⟩ => ⟨S32768x128, .f32⟩
  | .hbm, ⟨1, _⟩ => ⟨S32768x3, .f32⟩
  | .hbm, ⟨2, _⟩ => ⟨S32768, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S4x16x512, .i32⟩
  | .hbm, ⟨8, _⟩ => ⟨S1x128, .f32⟩
  | .hbm, ⟨9, _⟩ => ⟨S1x256, .f32⟩
  | .hbm, ⟨10, _⟩ => ⟨S16x256, .f32⟩
  | .hbm, ⟨11, _⟩ => ⟨S16x3, .f32⟩
  | .hbm, ⟨12, _⟩ => ⟨S16, .i32⟩
  | .local _ .vmem, ⟨0, _⟩ => ⟨S8192x128, .f32⟩
  | .local _ .vmem, ⟨1, _⟩ => ⟨S8192x128, .f32⟩
  | .local _ .vmem, ⟨2, _⟩ => ⟨S8192x3, .f32⟩
  | .local _ .vmem, ⟨3, _⟩ => ⟨S8192x3, .f32⟩
  | .local _ .vmem, ⟨4, _⟩ => ⟨S1x16x512, .i32⟩
  | .local _ .vmem, ⟨5, _⟩ => ⟨S1x16x512, .i32⟩
  | .local _ .vmem, ⟨6, _⟩ => ⟨S128x128, .f32⟩
  | .local _ .vmem, ⟨7, _⟩ => ⟨S1x128, .f32⟩
  | .local _ .vmem, ⟨8, _⟩ => ⟨S128x256, .f32⟩
  | .local _ .vmem, ⟨9, _⟩ => ⟨S1x256, .f32⟩
  | .local _ .vmem, ⟨10, _⟩ => ⟨S16x256, .f32⟩
  | .local _ .vmem, ⟨11, _⟩ => ⟨S16x3, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

@[reducible] def k0_t1_loop (v313 : BitVec 32) (v315 : BitVec 32) : Scf.Loop 32 :=
  let c0_i32_167 : BitVec 32 := 0#32
  let v317 : BitVec 32 := Scalar.subi v315 v313
  let v318 : BitVec 32 := Scalar.subi v317 c0_i32_167
  let c1_i32 : BitVec 32 := 1#32
  let v320 : BitVec 32 := Scalar.divsi v318 c1_i32
  let v321 : BitVec 32 := Scalar.muli v320 c1_i32
  let v322 : BitVec 32 := Scalar.addi c0_i32_167 v321
  let c1_i32_168 : BitVec 32 := 1#32
  ⟨c0_i32_167, v322, c1_i32_168⟩

def k0_off1 (v331 : BitVec 32) : Fin 2 → Nat :=
  let c0_i32_172 : BitVec 32 := 0#32
  let v333 : BitVec 1 := Scalar.cmpi .sgt v331 c0_i32_172
  let v334 : BitVec 32 := Scalar.extui v333
  let c0_i32_173 : BitVec 32 := 0#32
  let v335 : BitVec 1 := Scalar.cmpi .slt v331 c0_i32_173
  let v336 : BitVec 32 := Scalar.extui v335
  let v337 : BitVec 32 := Scalar.subi v334 v336
  let c512_i32 : BitVec 32 := 512#32
  let c0_i32_174 : BitVec 32 := 0#32
  let v338 : BitVec 1 := Scalar.cmpi .sgt c512_i32 c0_i32_174
  let v339 : BitVec 32 := Scalar.extui v338
  let c0_i32_175 : BitVec 32 := 0#32
  let v340 : BitVec 1 := Scalar.cmpi .slt c512_i32 c0_i32_175
  let v341 : BitVec 32 := Scalar.extui v340
  let v342 : BitVec 32 := Scalar.subi v339 v341
  let v343 : BitVec 1 := Scalar.cmpi .ne v337 v342
  let v344 : BitVec 32 := Scalar.remsi v331 c512_i32
  let c0_i32_176 : BitVec 32 := 0#32
  let v345 : BitVec 1 := Scalar.cmpi .ne v344 c0_i32_176
  let v346 : BitVec 1 := Scalar.andi v343 v345
  let v332 : BitVec 32 := Scalar.divsi v331 c512_i32
  let c1_i32_177 : BitVec 32 := 1#32
  let v347 : BitVec 32 := Scalar.subi v332 c1_i32_177
  let v348 : BitVec 32 := Scalar.select v346 v347 v332
  let c512_i32_178 : BitVec 32 := 512#32
  let v349 : BitVec 32 := Scalar.muli v348 c512_i32_178
  let v350 : Index := Scalar.indexCast v349
  let c0_179 : Index := 0#32
  ![v350.toNat, 0]

def k0_off2 (v331 : BitVec 32) : Fin 2 → Nat :=
  let c0_i32_172 : BitVec 32 := 0#32
  let v333 : BitVec 1 := Scalar.cmpi .sgt v331 c0_i32_172
  let v334 : BitVec 32 := Scalar.extui v333
  let c0_i32_173 : BitVec 32 := 0#32
  let v335 : BitVec 1 := Scalar.cmpi .slt v331 c0_i32_173
  let v336 : BitVec 32 := Scalar.extui v335
  let v337 : BitVec 32 := Scalar.subi v334 v336
  let c512_i32 : BitVec 32 := 512#32
  let c0_i32_174 : BitVec 32 := 0#32
  let v338 : BitVec 1 := Scalar.cmpi .sgt c512_i32 c0_i32_174
  let v339 : BitVec 32 := Scalar.extui v338
  let c0_i32_175 : BitVec 32 := 0#32
  let v340 : BitVec 1 := Scalar.cmpi .slt c512_i32 c0_i32_175
  let v341 : BitVec 32 := Scalar.extui v340
  let v342 : BitVec 32 := Scalar.subi v339 v341
  let v343 : BitVec 1 := Scalar.cmpi .ne v337 v342
  let v344 : BitVec 32 := Scalar.remsi v331 c512_i32
  let c0_i32_176 : BitVec 32 := 0#32
  let v345 : BitVec 1 := Scalar.cmpi .ne v344 c0_i32_176
  let v346 : BitVec 1 := Scalar.andi v343 v345
  let v332 : BitVec 32 := Scalar.divsi v331 c512_i32
  let c1_i32_177 : BitVec 32 := 1#32
  let v347 : BitVec 32 := Scalar.subi v332 c1_i32_177
  let v348 : BitVec 32 := Scalar.select v346 v347 v332
  let c512_i32_178 : BitVec 32 := 512#32
  let v349 : BitVec 32 := Scalar.muli v348 c512_i32_178
  let v370 : Index := Scalar.indexCast v349
  let c0_191 : Index := 0#32
  ![v370.toNat, 0]

def k0_chk2 (v331 : BitVec 32) : Prop :=
  (∀ a, (k0_off1 v331) a + S512x128.size a ≤ S8192x128.size a) ∧
  (∀ a, (k0_off2 v331) a + S512x3.size a ≤ S8192x3.size a)
theorem k0_off1_inb : ∀ (v331 : BitVec 32) (k0_hw2 : k0_chk2 v331), ∀ a, (k0_off1 v331) a + S512x128.size a ≤ S8192x128.size a := fun v331 k0_hw2 => k0_hw2.1
theorem k0_off2_inb : ∀ (v331 : BitVec 32) (k0_hw2 : k0_chk2 v331), ∀ a, (k0_off2 v331) a + S512x3.size a ≤ S8192x3.size a := fun v331 k0_hw2 => k0_hw2.2

def k0_off3 (v313 : BitVec 32) (v315 : BitVec 32) (k0_t1 : Fin (k0_t1_loop v313 v315).trips) : Fin 2 → Nat :=
  let c1_i32_170 : BitVec 32 := 1#32
  let v323 : BitVec 32 := Scalar.addi v313 c1_i32_170
  let c0_i32_167 : BitVec 32 := 0#32
  let c1_i32_168 : BitVec 32 := 1#32
  let arg10 : BitVec 32 := Scf.iv c0_i32_167 c1_i32_168 k0_t1
  let v324 : BitVec 32 := Scalar.addi v323 arg10
  let c1_i32_196 : BitVec 32 := 1#32
  let v388 : BitVec 32 := Scalar.subi v324 c1_i32_196
  let v403 : Index := Scalar.indexCast v388
  let c0_200 : Index := 0#32
  ![v403.toNat, 0]
def k0_off4 (v313 : BitVec 32) (v315 : BitVec 32) (k0_t1 : Fin (k0_t1_loop v313 v315).trips) : Fin 2 → Nat :=
  let c1_i32_170 : BitVec 32 := 1#32
  let v323 : BitVec 32 := Scalar.addi v313 c1_i32_170
  let c0_i32_167 : BitVec 32 := 0#32
  let c1_i32_168 : BitVec 32 := 1#32
  let arg10 : BitVec 32 := Scf.iv c0_i32_167 c1_i32_168 k0_t1
  let v324 : BitVec 32 := Scalar.addi v323 arg10
  let c1_i32_196 : BitVec 32 := 1#32
  let v388 : BitVec 32 := Scalar.subi v324 c1_i32_196
  let v413 : Index := Scalar.indexCast v388
  let c0_203 : Index := 0#32
  ![v413.toNat, 0]
def k0_off5 (v313 : BitVec 32) (v315 : BitVec 32) (k0_t1 : Fin (k0_t1_loop v313 v315).trips) : Fin 2 → Nat :=
  let c1_i32_170 : BitVec 32 := 1#32
  let v323 : BitVec 32 := Scalar.addi v313 c1_i32_170
  let c0_i32_167 : BitVec 32 := 0#32
  let c1_i32_168 : BitVec 32 := 1#32
  let arg10 : BitVec 32 := Scf.iv c0_i32_167 c1_i32_168 k0_t1
  let v324 : BitVec 32 := Scalar.addi v323 arg10
  let v433 : Index := Scalar.indexCast v324
  let c0_208 : Index := 0#32
  ![v433.toNat, 0]
def k0_off6 (v313 : BitVec 32) (v315 : BitVec 32) (k0_t1 : Fin (k0_t1_loop v313 v315).trips) : Fin 2 → Nat :=
  let c1_i32_170 : BitVec 32 := 1#32
  let v323 : BitVec 32 := Scalar.addi v313 c1_i32_170
  let c0_i32_167 : BitVec 32 := 0#32
  let c1_i32_168 : BitVec 32 := 1#32
  let arg10 : BitVec 32 := Scf.iv c0_i32_167 c1_i32_168 k0_t1
  let v324 : BitVec 32 := Scalar.addi v323 arg10
  let v443 : Index := Scalar.indexCast v324
  let c0_211 : Index := 0#32
  ![v443.toNat, 0]
@[reducible] def k0_t2_loop (v313 : BitVec 32) (v315 : BitVec 32) : Scf.Loop 32 :=
  let c0_i32_167 : BitVec 32 := 0#32
  let v317 : BitVec 32 := Scalar.subi v315 v313
  let v318 : BitVec 32 := Scalar.subi v317 c0_i32_167
  let c1_i32 : BitVec 32 := 1#32
  let v320 : BitVec 32 := Scalar.divsi v318 c1_i32
  let v321 : BitVec 32 := Scalar.muli v320 c1_i32
  let v322 : BitVec 32 := Scalar.addi c0_i32_167 v321
  let v319 : BitVec 32 := Scalar.addi c0_i32_167 v318
  let c1_i32_169 : BitVec 32 := 1#32
  ⟨v322, v319, c1_i32_169⟩
def k0_off7 (v331 : BitVec 32) : Fin 2 → Nat :=
  let c0_i32_172 : BitVec 32 := 0#32
  let v333 : BitVec 1 := Scalar.cmpi .sgt v331 c0_i32_172
  let v334 : BitVec 32 := Scalar.extui v333
  let c0_i32_173 : BitVec 32 := 0#32
  let v335 : BitVec 1 := Scalar.cmpi .slt v331 c0_i32_173
  let v336 : BitVec 32 := Scalar.extui v335
  let v337 : BitVec 32 := Scalar.subi v334 v336
  let c512_i32 : BitVec 32 := 512#32
  let c0_i32_174 : BitVec 32 := 0#32
  let v338 : BitVec 1 := Scalar.cmpi .sgt c512_i32 c0_i32_174
  let v339 : BitVec 32 := Scalar.extui v338
  let c0_i32_175 : BitVec 32 := 0#32
  let v340 : BitVec 1 := Scalar.cmpi .slt c512_i32 c0_i32_175
  let v341 : BitVec 32 := Scalar.extui v340
  let v342 : BitVec 32 := Scalar.subi v339 v341
  let v343 : BitVec 1 := Scalar.cmpi .ne v337 v342
  let v344 : BitVec 32 := Scalar.remsi v331 c512_i32
  let c0_i32_176 : BitVec 32 := 0#32
  let v345 : BitVec 1 := Scalar.cmpi .ne v344 c0_i32_176
  let v346 : BitVec 1 := Scalar.andi v343 v345
  let v332 : BitVec 32 := Scalar.divsi v331 c512_i32
  let c1_i32_177 : BitVec 32 := 1#32
  let v347 : BitVec 32 := Scalar.subi v332 c1_i32_177
  let v348 : BitVec 32 := Scalar.select v346 v347 v332
  let c512_i32_178 : BitVec 32 := 512#32
  let v349 : BitVec 32 := Scalar.muli v348 c512_i32_178
  let v350 : Index := Scalar.indexCast v349
  let c0_179 : Index := 0#32
  ![v350.toNat, 0]

def k0_off8 (v331 : BitVec 32) : Fin 2 → Nat :=
  let c0_i32_172 : BitVec 32 := 0#32
  let v333 : BitVec 1 := Scalar.cmpi .sgt v331 c0_i32_172
  let v334 : BitVec 32 := Scalar.extui v333
  let c0_i32_173 : BitVec 32 := 0#32
  let v335 : BitVec 1 := Scalar.cmpi .slt v331 c0_i32_173
  let v336 : BitVec 32 := Scalar.extui v335
  let v337 : BitVec 32 := Scalar.subi v334 v336
  let c512_i32 : BitVec 32 := 512#32
  let c0_i32_174 : BitVec 32 := 0#32
  let v338 : BitVec 1 := Scalar.cmpi .sgt c512_i32 c0_i32_174
  let v339 : BitVec 32 := Scalar.extui v338
  let c0_i32_175 : BitVec 32 := 0#32
  let v340 : BitVec 1 := Scalar.cmpi .slt c512_i32 c0_i32_175
  let v341 : BitVec 32 := Scalar.extui v340
  let v342 : BitVec 32 := Scalar.subi v339 v341
  let v343 : BitVec 1 := Scalar.cmpi .ne v337 v342
  let v344 : BitVec 32 := Scalar.remsi v331 c512_i32
  let c0_i32_176 : BitVec 32 := 0#32
  let v345 : BitVec 1 := Scalar.cmpi .ne v344 c0_i32_176
  let v346 : BitVec 1 := Scalar.andi v343 v345
  let v332 : BitVec 32 := Scalar.divsi v331 c512_i32
  let c1_i32_177 : BitVec 32 := 1#32
  let v347 : BitVec 32 := Scalar.subi v332 c1_i32_177
  let v348 : BitVec 32 := Scalar.select v346 v347 v332
  let c512_i32_178 : BitVec 32 := 512#32
  let v349 : BitVec 32 := Scalar.muli v348 c512_i32_178
  let v370 : Index := Scalar.indexCast v349
  let c0_191 : Index := 0#32
  ![v370.toNat, 0]

def k0_chk3 (v331 : BitVec 32) : Prop :=
  (∀ a, (k0_off7 v331) a + S512x128.size a ≤ S8192x128.size a) ∧
  (∀ a, (k0_off8 v331) a + S512x3.size a ≤ S8192x3.size a)
theorem k0_off7_inb : ∀ (v331 : BitVec 32) (k0_hw3 : k0_chk3 v331), ∀ a, (k0_off7 v331) a + S512x128.size a ≤ S8192x128.size a := fun v331 k0_hw3 => k0_hw3.1
theorem k0_off8_inb : ∀ (v331 : BitVec 32) (k0_hw3 : k0_chk3 v331), ∀ a, (k0_off8 v331) a + S512x3.size a ≤ S8192x3.size a := fun v331 k0_hw3 => k0_hw3.2

def k0_off9 (v313 : BitVec 32) (v315 : BitVec 32) (k0_t2 : Fin (k0_t2_loop v313 v315).trips) : Fin 2 → Nat :=
  let c1_i32_170 : BitVec 32 := 1#32
  let v323 : BitVec 32 := Scalar.addi v313 c1_i32_170
  let c0_i32_167 : BitVec 32 := 0#32
  let v317 : BitVec 32 := Scalar.subi v315 v313
  let v318 : BitVec 32 := Scalar.subi v317 c0_i32_167
  let c1_i32 : BitVec 32 := 1#32
  let v320 : BitVec 32 := Scalar.divsi v318 c1_i32
  let v321 : BitVec 32 := Scalar.muli v320 c1_i32
  let v322 : BitVec 32 := Scalar.addi c0_i32_167 v321
  let c1_i32_169 : BitVec 32 := 1#32
  let arg10 : BitVec 32 := Scf.iv v322 c1_i32_169 k0_t2
  let v324 : BitVec 32 := Scalar.addi v323 arg10
  let c1_i32_196 : BitVec 32 := 1#32
  let v388 : BitVec 32 := Scalar.subi v324 c1_i32_196
  let v403 : Index := Scalar.indexCast v388
  let c0_200 : Index := 0#32
  ![v403.toNat, 0]
def k0_off10 (v313 : BitVec 32) (v315 : BitVec 32) (k0_t2 : Fin (k0_t2_loop v313 v315).trips) : Fin 2 → Nat :=
  let c1_i32_170 : BitVec 32 := 1#32
  let v323 : BitVec 32 := Scalar.addi v313 c1_i32_170
  let c0_i32_167 : BitVec 32 := 0#32
  let v317 : BitVec 32 := Scalar.subi v315 v313
  let v318 : BitVec 32 := Scalar.subi v317 c0_i32_167
  let c1_i32 : BitVec 32 := 1#32
  let v320 : BitVec 32 := Scalar.divsi v318 c1_i32
  let v321 : BitVec 32 := Scalar.muli v320 c1_i32
  let v322 : BitVec 32 := Scalar.addi c0_i32_167 v321
  let c1_i32_169 : BitVec 32 := 1#32
  let arg10 : BitVec 32 := Scf.iv v322 c1_i32_169 k0_t2
  let v324 : BitVec 32 := Scalar.addi v323 arg10
  let c1_i32_196 : BitVec 32 := 1#32
  let v388 : BitVec 32 := Scalar.subi v324 c1_i32_196
  let v413 : Index := Scalar.indexCast v388
  let c0_203 : Index := 0#32
  ![v413.toNat, 0]
def k0_off11 (v313 : BitVec 32) (v315 : BitVec 32) (k0_t2 : Fin (k0_t2_loop v313 v315).trips) : Fin 2 → Nat :=
  let c1_i32_170 : BitVec 32 := 1#32
  let v323 : BitVec 32 := Scalar.addi v313 c1_i32_170
  let c0_i32_167 : BitVec 32 := 0#32
  let v317 : BitVec 32 := Scalar.subi v315 v313
  let v318 : BitVec 32 := Scalar.subi v317 c0_i32_167
  let c1_i32 : BitVec 32 := 1#32
  let v320 : BitVec 32 := Scalar.divsi v318 c1_i32
  let v321 : BitVec 32 := Scalar.muli v320 c1_i32
  let v322 : BitVec 32 := Scalar.addi c0_i32_167 v321
  let c1_i32_169 : BitVec 32 := 1#32
  let arg10 : BitVec 32 := Scf.iv v322 c1_i32_169 k0_t2
  let v324 : BitVec 32 := Scalar.addi v323 arg10
  let v433 : Index := Scalar.indexCast v324
  let c0_208 : Index := 0#32
  ![v433.toNat, 0]
def k0_off12 (v313 : BitVec 32) (v315 : BitVec 32) (k0_t2 : Fin (k0_t2_loop v313 v315).trips) : Fin 2 → Nat :=
  let c1_i32_170 : BitVec 32 := 1#32
  let v323 : BitVec 32 := Scalar.addi v313 c1_i32_170
  let c0_i32_167 : BitVec 32 := 0#32
  let v317 : BitVec 32 := Scalar.subi v315 v313
  let v318 : BitVec 32 := Scalar.subi v317 c0_i32_167
  let c1_i32 : BitVec 32 := 1#32
  let v320 : BitVec 32 := Scalar.divsi v318 c1_i32
  let v321 : BitVec 32 := Scalar.muli v320 c1_i32
  let v322 : BitVec 32 := Scalar.addi c0_i32_167 v321
  let c1_i32_169 : BitVec 32 := 1#32
  let arg10 : BitVec 32 := Scf.iv v322 c1_i32_169 k0_t2
  let v324 : BitVec 32 := Scalar.addi v323 arg10
  let v443 : Index := Scalar.indexCast v324
  let c0_211 : Index := 0#32
  ![v443.toNat, 0]

def k0_chk1 (v313 : BitVec 32) (v315 : BitVec 32) : Prop :=
  ((k0_t1_loop v313 v315).OK) ∧
  (∀ k0_t1 : Fin (k0_t1_loop v313 v315).trips, ∀ a, (k0_off3 v313 v315 k0_t1) a + S1x256.size a ≤ S16x256.size a) ∧
  (∀ k0_t1 : Fin (k0_t1_loop v313 v315).trips, ∀ a, (k0_off4 v313 v315 k0_t1) a + S1x3.size a ≤ S16x3.size a) ∧
  (∀ k0_t1 : Fin (k0_t1_loop v313 v315).trips, ∀ a, (k0_off5 v313 v315 k0_t1) a + S1x256.size a ≤ S16x256.size a) ∧
  (∀ k0_t1 : Fin (k0_t1_loop v313 v315).trips, ∀ a, (k0_off6 v313 v315 k0_t1) a + S1x3.size a ≤ S16x3.size a) ∧
  ((k0_t2_loop v313 v315).OK) ∧
  (∀ k0_t2 : Fin (k0_t2_loop v313 v315).trips, ∀ a, (k0_off9 v313 v315 k0_t2) a + S1x256.size a ≤ S16x256.size a) ∧
  (∀ k0_t2 : Fin (k0_t2_loop v313 v315).trips, ∀ a, (k0_off10 v313 v315 k0_t2) a + S1x3.size a ≤ S16x3.size a) ∧
  (∀ k0_t2 : Fin (k0_t2_loop v313 v315).trips, ∀ a, (k0_off11 v313 v315 k0_t2) a + S1x256.size a ≤ S16x256.size a) ∧
  (∀ k0_t2 : Fin (k0_t2_loop v313 v315).trips, ∀ a, (k0_off12 v313 v315 k0_t2) a + S1x3.size a ≤ S16x3.size a)
theorem k0_t1_ok : ∀ (v313 : BitVec 32) (v315 : BitVec 32) (k0_hw1 : k0_chk1 v313 v315), (k0_t1_loop v313 v315).OK := fun v313 v315 k0_hw1 => k0_hw1.1
theorem k0_off3_inb : ∀ (v313 : BitVec 32) (v315 : BitVec 32) (k0_hw1 : k0_chk1 v313 v315) (k0_t1 : Fin (k0_t1_loop v313 v315).trips), ∀ a, (k0_off3 v313 v315 k0_t1) a + S1x256.size a ≤ S16x256.size a := fun v313 v315 k0_hw1 k0_t1 => k0_hw1.2.1 k0_t1
theorem k0_off4_inb : ∀ (v313 : BitVec 32) (v315 : BitVec 32) (k0_hw1 : k0_chk1 v313 v315) (k0_t1 : Fin (k0_t1_loop v313 v315).trips), ∀ a, (k0_off4 v313 v315 k0_t1) a + S1x3.size a ≤ S16x3.size a := fun v313 v315 k0_hw1 k0_t1 => k0_hw1.2.2.1 k0_t1
theorem k0_off5_inb : ∀ (v313 : BitVec 32) (v315 : BitVec 32) (k0_hw1 : k0_chk1 v313 v315) (k0_t1 : Fin (k0_t1_loop v313 v315).trips), ∀ a, (k0_off5 v313 v315 k0_t1) a + S1x256.size a ≤ S16x256.size a := fun v313 v315 k0_hw1 k0_t1 => k0_hw1.2.2.2.1 k0_t1
theorem k0_off6_inb : ∀ (v313 : BitVec 32) (v315 : BitVec 32) (k0_hw1 : k0_chk1 v313 v315) (k0_t1 : Fin (k0_t1_loop v313 v315).trips), ∀ a, (k0_off6 v313 v315 k0_t1) a + S1x3.size a ≤ S16x3.size a := fun v313 v315 k0_hw1 k0_t1 => k0_hw1.2.2.2.2.1 k0_t1
theorem k0_t2_ok : ∀ (v313 : BitVec 32) (v315 : BitVec 32) (k0_hw1 : k0_chk1 v313 v315), (k0_t2_loop v313 v315).OK := fun v313 v315 k0_hw1 => k0_hw1.2.2.2.2.2.1
theorem k0_off9_inb : ∀ (v313 : BitVec 32) (v315 : BitVec 32) (k0_hw1 : k0_chk1 v313 v315) (k0_t2 : Fin (k0_t2_loop v313 v315).trips), ∀ a, (k0_off9 v313 v315 k0_t2) a + S1x256.size a ≤ S16x256.size a := fun v313 v315 k0_hw1 k0_t2 => k0_hw1.2.2.2.2.2.2.1 k0_t2
theorem k0_off10_inb : ∀ (v313 : BitVec 32) (v315 : BitVec 32) (k0_hw1 : k0_chk1 v313 v315) (k0_t2 : Fin (k0_t2_loop v313 v315).trips), ∀ a, (k0_off10 v313 v315 k0_t2) a + S1x3.size a ≤ S16x3.size a := fun v313 v315 k0_hw1 k0_t2 => k0_hw1.2.2.2.2.2.2.2.1 k0_t2
theorem k0_off11_inb : ∀ (v313 : BitVec 32) (v315 : BitVec 32) (k0_hw1 : k0_chk1 v313 v315) (k0_t2 : Fin (k0_t2_loop v313 v315).trips), ∀ a, (k0_off11 v313 v315 k0_t2) a + S1x256.size a ≤ S16x256.size a := fun v313 v315 k0_hw1 k0_t2 => k0_hw1.2.2.2.2.2.2.2.2.1 k0_t2
theorem k0_off12_inb : ∀ (v313 : BitVec 32) (v315 : BitVec 32) (k0_hw1 : k0_chk1 v313 v315) (k0_t2 : Fin (k0_t2_loop v313 v315).trips), ∀ a, (k0_off12 v313 v315 k0_t2) a + S1x3.size a ≤ S16x3.size a := fun v313 v315 k0_hw1 k0_t2 => k0_hw1.2.2.2.2.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S32768x128 : Shape := ⟨2, ![32768, 128]⟩
abbrev S32768x3 : Shape := ⟨2, ![32768, 3]⟩
abbrev S32768 : Shape := ⟨1, ![32768]⟩
abbrev S128x128 : Shape := ⟨2, ![128, 128]⟩
abbrev S128 : Shape := ⟨1, ![128]⟩
abbrev S128x256 : Shape := ⟨2, ![128, 256]⟩
abbrev S256 : Shape := ⟨1, ![256]⟩
abbrev S1x128 : Shape := ⟨2, ![1, 128]⟩
abbrev S_ : Shape := ⟨0, ![]⟩
abbrev S32768x256 : Shape := ⟨2, ![32768, 256]⟩
abbrev S1x256 : Shape := ⟨2, ![1, 256]⟩
abbrev S16 : Shape := ⟨1, ![16]⟩
abbrev S16x1x1 : Shape := ⟨3, ![16, 1, 1]⟩
abbrev S1x32768x1 : Shape := ⟨3, ![1, 32768, 1]⟩
abbrev S16x32768x1 : Shape := ⟨3, ![16, 32768, 1]⟩
abbrev S1x32768x256 : Shape := ⟨3, ![1, 32768, 256]⟩
abbrev S16x32768x256 : Shape := ⟨3, ![16, 32768, 256]⟩
abbrev S16x256 : Shape := ⟨2, ![16, 256]⟩
abbrev S1x32768x3 : Shape := ⟨3, ![1, 32768, 3]⟩
abbrev S16x32768x3 : Shape := ⟨3, ![16, 32768, 3]⟩
abbrev S16x3 : Shape := ⟨2, ![16, 3]⟩

abbrev nBuf : Space → Nat
  | .hbm => 43
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x3, .f32⟩
  | .hbm, ⟨2, _⟩ => ⟨S32768, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S32768x128, .f32⟩
  | .hbm, ⟨8, _⟩ => ⟨S1x128, .f32⟩
  | .hbm, ⟨9, _⟩ => ⟨S32768x128, .f32⟩
  | .hbm, ⟨10, _⟩ => ⟨S32768x128, .f32⟩
  | .hbm, ⟨11, _⟩ => ⟨S_, .f32⟩
  | .hbm, ⟨12, _⟩ => ⟨S32768x128, .f32⟩
  | .hbm, ⟨13, _⟩ => ⟨S32768x128, .f32⟩
  | .hbm, ⟨14, _⟩ => ⟨S32768x256, .f32⟩
  | .hbm, ⟨15, _⟩ => ⟨S1x256, .f32⟩
  | .hbm, ⟨16, _⟩ => ⟨S32768x256, .f32⟩
  | .hbm, ⟨17, _⟩ => ⟨S32768x256, .f32⟩
  | .hbm, ⟨18, _⟩ => ⟨S16, .i32⟩
  | .hbm, ⟨19, _⟩ => ⟨S16x1x1, .i32⟩
  | .hbm, ⟨20, _⟩ => ⟨S1x32768x1, .i32⟩
  | .hbm, ⟨21, _⟩ => ⟨S16x32768x1, .i32⟩
  | .hbm, ⟨22, _⟩ => ⟨S16x32768x1, .i32⟩
  | .hbm, ⟨23, _⟩ => ⟨S16x32768x1, .i1⟩
  | .hbm, ⟨24, _⟩ => ⟨S1x32768x256, .f32⟩
  | .hbm, ⟨25, _⟩ => ⟨S_, .f32⟩
  | .hbm, ⟨26, _⟩ => ⟨S_, .f32⟩
  | .hbm, ⟨27, _⟩ => ⟨S16x32768x256, .i1⟩
  | .hbm, ⟨28, _⟩ => ⟨S16x32768x256, .f32⟩
  | .hbm, ⟨29, _⟩ => ⟨S16x32768x256, .f32⟩
  | .hbm, ⟨30, _⟩ => ⟨S16x32768x256, .f32⟩
  | .hbm, ⟨31, _⟩ => ⟨S_, .f32⟩
  | .hbm, ⟨32, _⟩ => ⟨S16x256, .f32⟩
  | .hbm, ⟨33, _⟩ => ⟨S1x32768x3, .f32⟩
  | .hbm, ⟨34, _⟩ => ⟨S_, .f32⟩
  | .hbm, ⟨35, _⟩ => ⟨S_, .f32⟩
  | .hbm, ⟨36, _⟩ => ⟨S16x32768x3, .i1⟩
  | .hbm, ⟨37, _⟩ => ⟨S16x32768x3, .f32⟩
  | .hbm, ⟨38, _⟩ => ⟨S16x32768x3, .f32⟩
  | .hbm, ⟨39, _⟩ => ⟨S16x32768x3, .f32⟩
  | .hbm, ⟨40, _⟩ => ⟨S_, .f32⟩
  | .hbm, ⟨41, _⟩ => ⟨S16x3, .f32⟩
  | .hbm, ⟨42, _⟩ => ⟨S16, .i32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Proof.KI.Trip.lean ====
/- One trip of the boundary loop: what it stores, and its run. -/
module

public import proofs.«01_k».proof.Proof.Gen.KernelIdeal.Loops
public import proofs.«01_k».proof.Proof.Gen.KernelIdeal.Frame
public import Idealize.ShloMosaic.Lib.VecWindow
public import Idealize.ShloMosaic.Lib.Pipeline.FrameBody
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid0.Coords)
  (arg1 : Memref sig .tc .vmem S8192x128 .f32) (harg1 : arg1.IsWhole) (arg2 : Memref sig .tc .vmem S8192x3 .f32) (harg2 : arg2.IsWhole)
  (arg3 : Memref sig .tc .vmem S1x16x512 .i32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S128x256 .f32) (harg6 : arg6.IsWhole)
  (arg7 : Memref sig .tc .vmem S1x256 .f32) (harg7 : arg7.IsWhole) (arg8 : Memref sig .tc .vmem S16x256 .f32) (harg8 : arg8.IsWhole)
  (arg9 : Memref sig .tc .vmem S16x3 .f32) (harg9 : arg9.IsWhole)
  (v24 : IVec S16x512 32) (v313 v315 : BitVec 32) (k0_hw1 : k0_chk1 v313 v315) (v316 : IVec S512x1 32)
  (x1 : Vec F S8192x128 .f32) (x2 : Vec F S8192x3 .f32) (x4 : Vec F S128x128 .f32) (x5 : Vec F S1x128 .f32)
  (x6 : Vec F S128x256 .f32) (x7 : Vec F S1x256 .f32)

/-- The boundary a trip works at: the segment that begins there. -/
abbrev seg (k : Fin (k0_t1_loop v313 v315).trips) : BitVec 32 :=
  Scalar.addi (Scalar.addi v313 1#32) (Scf.iv 0#32 1#32 k)

/-- The row the boundary is at: how many rows of the block belong to an earlier segment. -/
abbrev cut (k : Fin (k0_t1_loop v313 v315).trips) : BitVec 32 :=
  extractAt ![0, 0, 0] (k0_pay9 v24 v313 v315 0#32 1#32 k) inpos_S1x1x1_p0_0_0

/-- The row the following boundary is at. -/
abbrev next (k : Fin (k0_t1_loop v313 v315).trips) : BitVec 32 :=
  extractAt ![0, 0, 0] (k0_pay12 v24 (seg v313 v315 k)) inpos_S1x1x1_p0_0_0

/-- The first row of the 512-row chunk that holds row `w`: the quotient, rounded down, times 512. -/
def chunk (w : BitVec 32) : BitVec 32 :=
  Scalar.muli (Scalar.select
    (Scalar.andi
      (Scalar.cmpi .ne (Scalar.subi (Scalar.extui (Scalar.cmpi .sgt w 0#32) : BitVec 32) (Scalar.extui (Scalar.cmpi .slt w 0#32)))
        (Scalar.subi (Scalar.extui (Scalar.cmpi .sgt 512#32 0#32)) (Scalar.extui (Scalar.cmpi .slt 512#32 0#32))))
      (Scalar.cmpi .ne (Scalar.remsi w 512#32) 0#32))
    (Scalar.subi (Scalar.divsi w 512#32) 1#32) (Scalar.divsi w 512#32)) 512#32

/-- The hidden layer of the chunk's 512 rows. -/
abbrev hid (w : BitVec 32) (hw2 : k0_chk2 w) : FVec F S512x128 .bf16 :=
  k0_pay10 (VecWindow.window x1 (k0_off1 w) S512x128.size (k0_off1_inb w hw2)) x4 x5

/-- The positions of the chunk's 512 rows. -/
abbrev posn (w : BitVec 32) (hw2 : k0_chk2 w) : Vec F S512x3 .f32 :=
  VecWindow.window x2 (k0_off2 w) S512x3.size (k0_off2_inb w hw2)

/-- What a trip leaves in the feature maxima `X`: row `seg - 1` raised by the chunk's rows before the cut, then row
    `seg` by those from the cut on. -/
def tripX (k : Fin (k0_t1_loop v313 v315).trips) (hw2 : k0_chk2 (cut v24 v313 v315 k)) (X : Vec F S16x256 .f32) : Vec F S16x256 .f32 :=
  let w := cut v24 v313 v315 k
  let h := hid x1 x4 x5 w hw2
  let X' := VecWindow.put X (k0_off3 v313 v315 k) S1x256.size
    (k0_pay14 v24 v316 (seg v313 v315 k) w (chunk w) h x6 x7 (VecWindow.window X (k0_off3 v313 v315 k) S1x256.size (k0_off3_inb v313 v315 k0_hw1 k)))
  VecWindow.put X' (k0_off5 v313 v315 k) S1x256.size
    (k0_pay3 v316 w (chunk w) (k0_pay11 h x6 x7) (next v24 v313 v315 k) (VecWindow.window X' (k0_off5 v313 v315 k) S1x256.size (k0_off5_inb v313 v315 k0_hw1 k)))

/-- What a trip leaves in the position maxima `P`: the same two rows. -/
def tripP (k : Fin (k0_t1_loop v313 v315).trips) (hw2 : k0_chk2 (cut v24 v313 v315 k)) (P : Vec F S16x3 .f32) : Vec F S16x3 .f32 :=
  let w := cut v24 v313 v315 k
  let p := posn x2 w hw2
  let P' := VecWindow.put P (k0_off4 v313 v315 k) S1x3.size
    (k0_pay1 p (k0_pay13 v24 v316 (seg v313 v315 k) w (chunk w)) (VecWindow.window P (k0_off4 v313 v315 k) S1x3.size (k0_off4_inb v313 v315 k0_hw1 k)))
  VecWindow.put P' (k0_off6 v313 v315 k) S1x3.size
    (k0_pay4 v316 w (chunk w) p (next v24 v313 v315 k) (VecWindow.window P' (k0_off6 v313 v315 k) S1x3.size (k0_off6_inb v313 v315 k0_hw1 k)))

/-- The eight arrays a trip touches, each held whole at given values. -/
abbrev held (X : Vec F S16x256 .f32) (P : Vec F S16x3 .f32) : sProp 𝕄 :=
  iprop((arg1.view.loc (c : Thread nD τ) ↦[arg1.view.set]{fullShare} arg1.view.rep x1) ∗ (arg2.view.loc (c : Thread nD τ) ↦[arg2.view.set]{fullShare} arg2.view.rep x2)
    ∗ (arg4.view.loc (c : Thread nD τ) ↦[arg4.view.set]{fullShare} arg4.view.rep x4) ∗ (arg5.view.loc (c : Thread nD τ) ↦[arg5.view.set]{fullShare} arg5.view.rep x5)
    ∗ (arg6.view.loc (c : Thread nD τ) ↦[arg6.view.set]{fullShare} arg6.view.rep x6) ∗ (arg7.view.loc (c : Thread nD τ) ↦[arg7.view.set]{fullShare} arg7.view.rep x7)
    ∗ (arg8.view.loc (c : Thread nD τ) ↦[arg8.view.set]{fullShare} arg8.view.rep X) ∗ (arg9.view.loc (c : Thread nD τ) ↦[arg9.view.set]{fullShare} arg9.view.rep P))

/-- One trip, from arrays held at given values: the inputs come back as they were, the two outputs at `tripX`, `tripP`. -/
theorem trip_run (k : Fin (k0_t1_loop v313 v315).trips) (hw2 : k0_chk2 (cut v24 v313 v315 k)) (X : Vec F S16x256 .f32) (P : Vec F S16x3 .f32) :
    held c arg1 arg2 arg4 arg5 arg6 arg7 arg8 arg9 x1 x2 x4 x5 x6 x7 X P
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 v24 v313 v315 k0_hw1 v316 0#32 k ⟨⟩)
          fun _ => held c arg1 arg2 arg4 arg5 arg6 arg7 arg8 arg9 x1 x2 x4 x5 x6 x7
            (tripX v24 v313 v315 k0_hw1 v316 x1 x4 x5 x6 x7 k hw2 X) (tripP v24 v313 v315 k0_hw1 v316 x2 k hw2 P) := by
  unfold k0_t1_body
  simp only [k0_part1_eq_skeleton, k0_part2_eq_skeleton]
  iintro ⟨H1, H2, H4, H5, H6, H7, H8, H9⟩
  sl_exec
  sl_step
  isplitl [H1]; · iexact H1
  isplitl [H2]; · iexact H2
  isplitl [H4]; · iexact H4
  isplitl [H5]; · iexact H5
  isplitl [H6]; · iexact H6
  isplitl [H7]; · iexact H7
  isplitl [H8]
  · iapply (pointsTo_rep_of_read (c : Thread nD τ) arg8 _ fullShare _ ?_)
    rotate_left
    · iexact H8
    · unfold trip_run.sl.H8_1
      rw [View.read_writes_cons_put _ _ _ _ _ rfl, View.readAt_unit _ _ _ rfl (k0_off5_inb v313 v315 k0_hw1 k), View.read_writes_cons_put _ _ _ _ _ rfl]
      simp only [View.writes_nil, View.read_rep]
      unfold trip_run.sl.r_1 trip_run.sl.r_4 trip_run.sl.r
      rw [View.readAt_rep_full arg4.view x4, View.readAt_rep_full arg5.view x5, View.readAt_rep_full arg6.view x6, View.readAt_rep_full arg7.view x7,
        View.readAt_rep_unit arg8.view X _ rfl (k0_off3_inb v313 v315 k0_hw1 k), View.readAt_rep_unit arg1.view x1 _ rfl (k0_off1_inb (trip_run.sl.v331 v24 v313 v315 k) hw2)]
      rfl
  iapply (pointsTo_rep_of_read (c : Thread nD τ) arg9 _ fullShare _ ?_)
  rotate_left
  · iexact H9
  · unfold trip_run.sl.H9_1
    rw [View.read_writes_cons_put _ _ _ _ _ rfl, View.readAt_unit arg9.view (View.writes _ _ _ _) _ rfl (k0_off6_inb v313 v315 k0_hw1 k), View.read_writes_cons_put _ _ _ _ _ rfl]
    simp only [View.writes_nil, View.read_rep]
    unfold trip_run.sl.r_2 trip_run.sl.r_3
    rw [View.readAt_rep_unit arg9.view P _ rfl (k0_off4_inb v313 v315 k0_hw1 k), View.readAt_rep_unit arg2.view x2 _ rfl (k0_off2_inb (trip_run.sl.v331 v24 v313 v315 k) hw2)]
    rfl

/-- The outputs before trip `k`, from their values where the loop begins. (Where a chunk would not lie in its block, a
    case the invariant rules out, nothing is said.) -/
def accX (X₀ : Vec F S16x256 .f32) : ℕ → Vec F S16x256 .f32
  | 0 => X₀
  | k + 1 => if h : ∃ hk : k < (k0_t1_loop v313 v315).trips, k0_chk2 (cut v24 v313 v315 ⟨k, hk⟩) then
      tripX v24 v313 v315 k0_hw1 v316 x1 x4 x5 x6 x7 ⟨k, h.1⟩ h.2 (accX X₀ k) else accX X₀ k

/-- The position maxima before trip `k`, as `accX`. -/
def accP (P₀ : Vec F S16x3 .f32) : ℕ → Vec F S16x3 .f32
  | 0 => P₀
  | k + 1 => if h : ∃ hk : k < (k0_t1_loop v313 v315).trips, k0_chk2 (cut v24 v313 v315 ⟨k, hk⟩) then
      tripP v24 v313 v315 k0_hw1 v316 x2 ⟨k, h.1⟩ h.2 (accP P₀ k) else accP P₀ k

set_option warn.classDefReducibility false in
/-- The boundary loop's invariant: before trip `k` the inputs are as they were and the outputs are at `accX`, `accP`;
    every trip's chunk lies in the block. -/
@[sl_loop] def loopInv_k0_t1 (X₀ : Vec F S16x256 .f32) (P₀ : Vec F S16x3 .f32) :
    LoopInvTy_k0_t1 (F := F) Unit ℕ (UR sig nD τ) ℕ Variants.none c none Set.univ i arg1 harg1 arg2 harg2 arg3 harg3 arg4 harg4 arg5 harg5 arg6 harg6
      arg7 harg7 arg8 harg8 arg9 harg9 v24 v313 v315 k0_hw1 v316 0#32 where
  inv k _ := iprop(⌜∀ j, k0_chk2 (cut v24 v313 v315 j)⌝ ∗ held c arg1 arg2 arg4 arg5 arg6 arg7 arg8 arg9 x1 x2 x4 x5 x6 x7
    (accX v24 v313 v315 k0_hw1 v316 x1 x4 x5 x6 x7 X₀ k) (accP v24 v313 v315 k0_hw1 v316 x2 P₀ k))
  step k _ := by
    iintro ⟨%hall, H⟩
    have e8 : accX v24 v313 v315 k0_hw1 v316 x1 x4 x5 x6 x7 X₀ (k.val + 1)
        = tripX v24 v313 v315 k0_hw1 v316 x1 x4 x5 x6 x7 k (hall k) (accX v24 v313 v315 k0_hw1 v316 x1 x4 x5 x6 x7 X₀ k) := by
      rw [accX, dif_pos ⟨k.isLt, hall k⟩]
    have e9 : accP v24 v313 v315 k0_hw1 v316 x2 P₀ (k.val + 1)
        = tripP v24 v313 v315 k0_hw1 v316 x2 k (hall k) (accP v24 v313 v315 k0_hw1 v316 x2 P₀ k) := by
      rw [accP, dif_pos ⟨k.isLt, hall k⟩]
    rw [e8, e9]
    iapply (wp_wand_r Idealize.ShloMosaic.frame (wpE (defs₀ (F := F)) Variants.none (c : Thread nD τ) none) Set.univ)
    isplitl [H]
    · iapply (trip_run c i arg1 harg1 arg2 harg2 arg3 harg3 arg4 harg4 arg5 harg5 arg6 harg6 arg7 harg7 arg8 harg8 arg9 harg9
        v24 v313 v315 k0_hw1 v316 x1 x2 x4 x5 x6 x7 k (hall k)); iexact H
    · iintro %_ H'
      isplitr; · ipureintro; exact hall
      iexact H'

end Trip

end Cert.Proof.KI

end
-- ==== Proof.KI.Body.lean ====
/- The kernel body at one grid point: what it leaves in its two outputs, and its run. -/
module

public import proofs.«01_k».proof.Proof.KI.Trip
public import Idealize.ShloMosaic.Lib.Pipeline.TableIdle
public import Idealize.ShloMosaic.Lib.LoopRemainder

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one of the sixteen static updates leaves in segment `s`'s row of the feature maxima: the larger of the row and,
    over the chunks that lie in the segment, the chunks' maxima. -/
abbrev statRowX (o : Fin 2 → ℕ) (ho : S16x16.Slices o S16x1) (v26 : FVec F S16x256 .f32) (v39 : FVec F S16x16 .f32) (row : Vec F S1x256 .f32) : FVec F S1x256 .f32 :=
  maximumf (shapeCast S1x256 row shapeCasts_S1x256_S1x256)
    (shapeCast S1x256 (multiReduction .maximumf [0] S256 (addf v26 (broadcastTo S16x256 (extractStridedSlice S16x1 o v39 ho) broadcasts_S16x1_S16x256))
      0xFF800000#32 reduces_S16x256_S256 (.inl rfl) rfl) shapeCasts_S256_S1x256)

/-- The same for the position maxima. -/
abbrev statRowP (o : Fin 2 → ℕ) (ho : S16x16.Slices o S16x1) (v28 : FVec F S16x3 .f32) (v39 : FVec F S16x16 .f32) (row : Vec F S1x3 .f32) : FVec F S1x3 .f32 :=
  maximumf (shapeCast S1x3 row shapeCasts_S1x3_S1x3)
    (shapeCast S1x3 (multiReduction .maximumf [0] S3 (addf v28 (broadcastTo S16x3 (extractStridedSlice S16x1 o v39 ho) broadcasts_S16x1_S16x3))
      0xFF800000#32 reduces_S16x3_S3 (.inl rfl) rfl) shapeCasts_S3_S1x3)

/-- A single row lies in the feature maxima, -/
theorem inbX (n : ℕ) (h : n < 16) : ∀ a, (![n, 0] : Fin 2 → ℕ) a + S1x256.size a ≤ S16x256.size a := by
  intro a; fin_cases a <;> simp [S1x256, S16x256] <;> omega

/-- and in the position maxima; -/
theorem inbP (n : ℕ) (h : n < 16) : ∀ a, (![n, 0] : Fin 2 → ℕ) a + S1x3.size a ≤ S16x3.size a := by
  intro a; fin_cases a <;> simp [S1x3, S16x3] <;> omega

/-- a single column lies in the chunks' mask. -/
theorem slicesN (n : ℕ) (h : n < 16) : S16x16.Slices ![0, n] S16x1 := by
  refine ⟨rfl, ?_⟩; intro a; fin_cases a <;> simp [S16x16, S16x1] <;> omega

/-- The feature maxima after the first `n` static updates. -/
def statX (v26 : FVec F S16x256 .f32) (v39 : FVec F S16x16 .f32) (X : Vec F S16x256 .f32) : (n : ℕ) → n ≤ 16 → Vec F S16x256 .f32
  | 0, _ => X
  | n + 1, h => VecWindow.put (statX v26 v39 X n (Nat.le_of_succ_le h)) ![n, 0] S1x256.size
      (statRowX ![0, n] (slicesN n h) v26 v39 (VecWindow.window X ![n, 0] S1x256.size (inbX n h)))

/-- The position maxima after the first `n` static updates. -/
def statP (v28 : FVec F S16x3 .f32) (v39 : FVec F S16x16 .f32) (P : Vec F S16x3 .f32) : (n : ℕ) → n ≤ 16 → Vec F S16x3 .f32
  | 0, _ => P
  | n + 1, h => VecWindow.put (statP v28 v39 P n (Nat.le_of_succ_le h)) ![n, 0] S1x3.size
      (statRowP ![0, n] (slicesN n h) v28 v39 (VecWindow.window P ![n, 0] S1x3.size (inbP n h)))

section Pieces

variable {sp : Space}

/-- A row's load from an array held whole is that row. -/
theorem row_of_rep (v : View sig .tc sp S16x256 .f32) (X : Vec F S16x256 .f32) (n : ℕ) (h : n < 16) (inb) :
    View.readAt (Elt F) v (Rect.unit (s := S16x256) ![n, 0] S1x256.size inb).toLoadRect (v.rep X) = VecWindow.window X ![n, 0] S1x256.size (inbX n h) :=
  View.readAt_rep_unit v X _ rfl (inbX n h)

/-- The same of the position maxima. -/
theorem row_of_repP (v : View sig .tc sp S16x3 .f32) (P : Vec F S16x3 .f32) (n : ℕ) (h : n < 16) (inb) :
    View.readAt (Elt F) v (Rect.unit (s := S16x3) ![n, 0] S1x3.size inb).toLoadRect (v.rep P) = VecWindow.window P ![n, 0] S1x3.size (inbP n h) :=
  View.readAt_rep_unit v P _ rfl (inbP n h)

/-- One more static update, stored. -/
theorem statX_step (v : View sig .tc sp S16x256 .f32) (f) (L) (v26 : FVec F S16x256 .f32) (v39 : FVec F S16x16 .f32) (X : Vec F S16x256 .f32) (n : ℕ) (h : n + 1 ≤ 16)
    (inb) (w : FVec F S1x256 .f32) (hL : v.read (Elt F) (v.writes (Elt F) f L) = statX v26 v39 X n (Nat.le_of_succ_le h))
    (hw : w = statRowX ![0, n] (slicesN n h) v26 v39 (View.readAt (Elt F) v (Rect.unit (s := S16x256) ![n, 0] S1x256.size (inbX n h)).toLoadRect (v.rep X))) :
    v.read (Elt F) (v.writes (Elt F) f (⟨Rect.unit (s := S16x256) ![n, 0] S1x256.size inb, w⟩ :: L)) = statX v26 v39 X (n + 1) h := by
  rw [View.read_writes_cons_put _ _ _ _ _ rfl, hL, hw, row_of_rep v X n h]; rfl

/-- The same of the position maxima. -/
theorem statP_step (v : View sig .tc sp S16x3 .f32) (f) (L) (v28 : FVec F S16x3 .f32) (v39 : FVec F S16x16 .f32) (P : Vec F S16x3 .f32) (n : ℕ) (h : n + 1 ≤ 16)
    (inb) (w : FVec F S1x3 .f32) (hL : v.read (Elt F) (v.writes (Elt F) f L) = statP v28 v39 P n (Nat.le_of_succ_le h))
    (hw : w = statRowP ![0, n] (slicesN n h) v28 v39 (View.readAt (Elt F) v (Rect.unit (s := S16x3) ![n, 0] S1x3.size (inbP n h)).toLoadRect (v.rep P))) :
    v.read (Elt F) (v.writes (Elt F) f (⟨Rect.unit (s := S16x3) ![n, 0] S1x3.size inb, w⟩ :: L)) = statP v28 v39 P (n + 1) h := by
  rw [View.read_writes_cons_put _ _ _ _ _ rfl, hL, hw, row_of_repP v P n h]; rfl

/-- The first point's stores, over the fill: the row loaded is the one the earlier stores left, which is the fill's. -/
theorem row_of_statX (v26 : FVec F S16x256 .f32) (v39 : FVec F S16x16 .f32) (X : Vec F S16x256 .f32) (n : ℕ) (h : n < 16) :
    ∀ k (hk : k ≤ n), VecWindow.window (statX v26 v39 X k (by omega)) ![n, 0] S1x256.size (inbX n h) = VecWindow.window X ![n, 0] S1x256.size (inbX n h)
  | 0, _ => rfl
  | k + 1, hk => by
    rw [statX, VecWindow.window_put_of_disjoint _ _ _ _ _ _ _ 0 (Or.inr ?_)]
    · exact row_of_statX v26 v39 X n h k (by omega)
    · simp; omega

/-- The same of the position maxima. -/
theorem row_of_statP (v28 : FVec F S16x3 .f32) (v39 : FVec F S16x16 .f32) (P : Vec F S16x3 .f32) (n : ℕ) (h : n < 16) :
    ∀ k (hk : k ≤ n), VecWindow.window (statP v28 v39 P k (by omega)) ![n, 0] S1x3.size (inbP n h) = VecWindow.window P ![n, 0] S1x3.size (inbP n h)
  | 0, _ => rfl
  | k + 1, hk => by
    rw [statP, VecWindow.window_put_of_disjoint _ _ _ _ _ _ _ 0 (Or.inr ?_)]
    · exact row_of_statP v28 v39 P n h k (by omega)
    · simp; omega

/-- The same from the fill, of the features, -/
theorem statX_step_first (v : View sig .tc sp S16x256 .f32) (L) (v26 : FVec F S16x256 .f32) (v39 : FVec F S16x16 .f32) (X : Vec F S16x256 .f32) (n : ℕ)
    (h : n + 1 ≤ 16) (inb) (w : FVec F S1x256 .f32) (hL : ∀ f, v.read (Elt F) (v.writes (Elt F) f L) = statX v26 v39 X n (Nat.le_of_succ_le h))
    (hw : w = statRowX ![0, n] (slicesN n h) v26 v39 (v.readCov L (Rect.unit (s := S16x256) ![n, 0] S1x256.size (inbX n h)).toLoadRect)) (f) :
    v.read (Elt F) (v.writes (Elt F) f (⟨Rect.unit (s := S16x256) ![n, 0] S1x256.size inb, w⟩ :: L)) = statX v26 v39 X (n + 1) h := by
  rw [View.read_writes_cons_put _ _ _ _ _ rfl, hL, hw]
  have e : v.readCov L (Rect.unit (s := S16x256) ![n, 0] S1x256.size (inbX n h)).toLoadRect = VecWindow.window X ![n, 0] S1x256.size (inbX n h) := by
    unfold View.readCov
    rw [View.readAt_unit v _ (inbX n h) rfl (inbX n h), hL, row_of_statX v26 v39 X n h n le_rfl]
  rw [e]; rfl

/-- and of the positions. -/
theorem statP_step_first (v : View sig .tc sp S16x3 .f32) (L) (v28 : FVec F S16x3 .f32) (v39 : FVec F S16x16 .f32) (P : Vec F S16x3 .f32) (n : ℕ)
    (h : n + 1 ≤ 16) (inb) (w : FVec F S1x3 .f32) (hL : ∀ f, v.read (Elt F) (v.writes (Elt F) f L) = statP v28 v39 P n (Nat.le_of_succ_le h))
    (hw : w = statRowP ![0, n] (slicesN n h) v28 v39 (v.readCov L (Rect.unit (s := S16x3) ![n, 0] S1x3.size (inbP n h)).toLoadRect)) (f) :
    v.read (Elt F) (v.writes (Elt F) f (⟨Rect.unit (s := S16x3) ![n, 0] S1x3.size inb, w⟩ :: L)) = statP v28 v39 P (n + 1) h := by
  rw [View.read_writes_cons_put _ _ _ _ _ rfl, hL, hw]
  have e : v.readCov L (Rect.unit (s := S16x3) ![n, 0] S1x3.size (inbP n h)).toLoadRect = VecWindow.window P ![n, 0] S1x3.size (inbP n h) := by
    unfold View.readCov
    rw [View.readAt_unit v _ (inbP n h) rfl (inbP n h), hL, row_of_statP v28 v39 P n h n le_rfl]
  rw [e]; rfl

end Pieces

section Body

variable (c : Dev nD) (i : grid0.Coords)
  (arg1 : Memref sig .tc .vmem S8192x128 .f32) (harg1 : arg1.IsWhole) (arg2 : Memref sig .tc .vmem S8192x3 .f32) (harg2 : arg2.IsWhole)
  (arg3 : Memref sig .tc .vmem S1x16x512 .i32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S128x256 .f32) (harg6 : arg6.IsWhole)
  (arg7 : Memref sig .tc .vmem S1x256 .f32) (harg7 : arg7.IsWhole) (arg8 : Memref sig .tc .vmem S16x256 .f32) (harg8 : arg8.IsWhole)
  (arg9 : Memref sig .tc .vmem S16x3 .f32) (harg9 : arg9.IsWhole)
  (x1 : Vec F S8192x128 .f32) (x2 : Vec F S8192x3 .f32) (x3 : Vec F S1x16x512 .i32) (x4 : Vec F S128x128 .f32) (x5 : Vec F S1x128 .f32)
  (x6 : Vec F S128x256 .f32) (x7 : Vec F S1x256 .f32) (X : Vec F S16x256 .f32) (P : Vec F S16x3 .f32)

/-- The block's first segment. -/
abbrev lo : BitVec 32 := extractAt ![0, 0] (k0_pay81 (k0_pay23 (F := F) x3)) inpos_S1x1_p0_0

/-- The block's last segment. -/
abbrev hi : BitVec 32 := extractAt ![0, 0] (k0_pay82 (k0_pay23 (F := F) x3)) inpos_S1x1_p0_0

/-- The words of a block the body assumes something of: the loop's bounds and rows, and every trip's chunk. -/
abbrev Words : Prop := ∃ h : k0_chk1 (lo (F := F) x3) (hi (F := F) x3), ∀ k, k0_chk2 (cut (k0_pay23 (F := F) x3) (lo (F := F) x3) (hi (F := F) x3) k)

/-- The mask of the static updates: 0 where a chunk lies in a segment, minus infinity elsewhere. -/
abbrev mask : FVec F S16x16 .f32 := k0_pay28 (k0_pay26 (F := F) x3) (k0_pay27 (F := F) x3)

/-- The row numbers of a chunk. -/
abbrev rows512 : IVec S512x1 32 := iota .tc S512x1 32 [0] iota_S512x1_d0_w32

/-- What the body leaves in the feature maxima, from `X`: the static updates, then the boundary loop's. (Outside the
    assumed range of the bounds nothing is said.) -/
def outX (X : Vec F S16x256 .f32) : Vec F S16x256 .f32 :=
  if h : k0_chk1 (lo (F := F) x3) (hi (F := F) x3) then
    accX (k0_pay23 (F := F) x3) (lo (F := F) x3) (hi (F := F) x3) h rows512 x1 x4 x5 x6 x7
      (statX (k0_pay24 x1 x4 x5 x6 x7) (mask (F := F) x3) X 16 le_rfl) (k0_t1_loop (lo (F := F) x3) (hi (F := F) x3)).trips
  else X

/-- What the body leaves in the position maxima, as `outX`. -/
def outP (P : Vec F S16x3 .f32) : Vec F S16x3 .f32 :=
  if h : k0_chk1 (lo (F := F) x3) (hi (F := F) x3) then
    accP (k0_pay23 (F := F) x3) (lo (F := F) x3) (hi (F := F) x3) h rows512 x2
      (statP (k0_pay25 x2) (mask (F := F) x3) P 16 le_rfl) (k0_t1_loop (lo (F := F) x3) (hi (F := F) x3)).trips
  else P

/-- What a block leaves, with its two bounds named, of the features, -/
theorem outX_of_words (v24 : IVec S16x512 32) (a b : BitVec 32) (h : k0_chk1 a b) (e3 : v24 = k0_pay23 (F := F) x3) (e6 : a = lo (F := F) x3)
    (e7 : b = hi (F := F) x3) : accX v24 a b h rows512 x1 x4 x5 x6 x7 (statX (k0_pay24 x1 x4 x5 x6 x7) (mask (F := F) x3) X 16 le_rfl) (k0_t1_loop a b).trips
      = outX x1 x3 x4 x5 x6 x7 X := by
  subst e3 e6 e7; rw [outX, dif_pos h]

/-- and of the positions. -/
theorem outP_of_words (v24 : IVec S16x512 32) (a b : BitVec 32) (h : k0_chk1 a b) (e3 : v24 = k0_pay23 (F := F) x3) (e6 : a = lo (F := F) x3)
    (e7 : b = hi (F := F) x3) : accP v24 a b h rows512 x2 (statP (k0_pay25 x2) (mask (F := F) x3) P 16 le_rfl) (k0_t1_loop a b).trips
      = outP x2 x3 P := by
  subst e3 e6 e7; rw [outP, dif_pos h]

/-- The condition of the body's fill: the first grid point. -/
abbrev isFirst (i : grid0.Coords) : Prop := (Scalar.cmpi .ne (Scalar.extui (Scalar.cmpi .eq (BitVec.ofNat 32 (i 0).val) 0#32)) 0#32) = 1#1

set_option maxHeartbeats 800000 in
/-- The body at a later point: from the maxima it finds to those it leaves. -/
theorem body_run (hc : ¬ isFirst i) (hw : Words (F := F) x3) :
    iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare X ∗ owns (c : Thread nD τ) arg9 fullShare P)
      ⊢ wp frame (wpE (defs₀ (F := F)) Variants.none (c : Thread nD τ) none) Set.univ
          (cc0__fused (F := F) i arg1 harg1 arg2 harg2 arg3 harg3 arg4 harg4 arg5 harg5 arg6 harg6 arg7 harg7 arg8 harg8 arg9 harg9)
          fun _ => (iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare (outX x1 x3 x4 x5 x6 x7 X) ∗ owns (c : Thread nD τ) arg9 fullShare (outP x2 x3 P)) : sProp 𝕄) := by
  simp only [owns_eq_rep]
  simp only [cc0__fused_eq_skeleton]; unfold cc0__fused_skel
  simp only [k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton]
  iintro ⟨H1, H2, H3, H4, H5, H6, H7, H8, H9⟩
  sl_exec (disch := first | sl_exact hc)
  obtain ⟨h1, h2⟩ := hw
  have e1 : body_run.sl.r_1 arg1 arg4 arg5 arg6 arg7 x1 x4 x5 x6 x7 = k0_pay24 x1 x4 x5 x6 x7 := by
    unfold body_run.sl.r_1
    rw [View.readAt_rep_full arg1.view x1, View.readAt_rep_full arg4.view x4, View.readAt_rep_full arg5.view x5, View.readAt_rep_full arg6.view x6, View.readAt_rep_full arg7.view x7]
  have e2 : body_run.sl.r_2 arg2 x2 = k0_pay25 x2 := by
    unfold body_run.sl.r_2
    rw [View.readAt_rep_full arg2.view x2]
  have e3 : body_run.sl.r (F := F) arg3 x3 = k0_pay23 (F := F) x3 := by
    unfold body_run.sl.r
    rw [View.readAt_rep_full arg3.view x3]
  have e5 : body_run.sl.r_5 (F := F) arg3 x3 = mask (F := F) x3 := by
    unfold body_run.sl.r_5 body_run.sl.r_3 body_run.sl.r_4
    rw [View.readAt_rep_full arg3.view x3]
  have e6 : body_run.sl.v313 (F := F) arg3 x3 = lo (F := F) x3 := by unfold body_run.sl.v313; rw [e3]
  have e7 : body_run.sl.v315 (F := F) arg3 x3 = hi (F := F) x3 := by unfold body_run.sl.v315; rw [e3]
  ihave H8 := pointsTo_rep_of_read (c : Thread nD τ) arg8 _ fullShare (statX (k0_pay24 x1 x4 x5 x6 x7) (mask (F := F) x3) X 16 le_rfl) ?_ $$ H8
  · rw [← e1, ← e5]
    iterate 16 refine statX_step arg8.view (arg8.view.rep X) _ (body_run.sl.r_1 arg1 arg4 arg5 arg6 arg7 x1 x4 x5 x6 x7) (body_run.sl.r_5 (F := F) arg3 x3) X _ _ _ _ ?_ ?_
    · simp only [View.writes_nil, View.read_rep]; rfl
    all_goals rfl
  ihave H9 := pointsTo_rep_of_read (c : Thread nD τ) arg9 _ fullShare (statP (k0_pay25 x2) (mask (F := F) x3) P 16 le_rfl) ?_ $$ H9
  · rw [← e2, ← e5]
    iterate 16 refine statP_step arg9.view (arg9.view.rep P) _ (body_run.sl.r_2 arg2 x2) (body_run.sl.r_5 (F := F) arg3 x3) P _ _ _ _ ?_ ?_
    · simp only [View.writes_nil, View.read_rep]; rfl
    all_goals rfl
  have hchk : k0_chk1 (body_run.sl.v313 (F := F) arg3 x3) (body_run.sl.v315 (F := F) arg3 x3) := by rw [e6, e7]; exact h1
  have hall : ∀ k, k0_chk2 (cut (body_run.sl.r (F := F) arg3 x3) (body_run.sl.v313 (F := F) arg3 x3) (body_run.sl.v315 (F := F) arg3 x3) k) := by
    rw [e3, e6, e7]; exact h2
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [← outX_of_words x1 x3 x4 x5 x6 x7 X _ _ _ hchk e3 e6 e7]; iexact H8
  rw [← outP_of_words x2 x3 P _ _ _ hchk e3 e6 e7]; iexact H9

set_option maxHeartbeats 800000 in
/-- The body at the first point: from the fill. -/
theorem body_run_first (hc : isFirst i) (hw : Words (F := F) x3) :
    iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare X ∗ owns (c : Thread nD τ) arg9 fullShare P)
      ⊢ wp frame (wpE (defs₀ (F := F)) Variants.none (c : Thread nD τ) none) Set.univ
          (cc0__fused (F := F) i arg1 harg1 arg2 harg2 arg3 harg3 arg4 harg4 arg5 harg5 arg6 harg6 arg7 harg7 arg8 harg8 arg9 harg9)
          fun _ => (iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare (outX x1 x3 x4 x5 x6 x7 k0_pay21) ∗ owns (c : Thread nD τ) arg9 fullShare (outP x2 x3 k0_pay22)) : sProp 𝕄) := by
  simp only [owns_eq_rep]
  simp only [cc0__fused_eq_skeleton]; unfold cc0__fused_skel
  simp only [k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton]
  iintro ⟨H1, H2, H3, H4, H5, H6, H7, H8, H9⟩
  sl_exec (disch := first | sl_exact hc)
  obtain ⟨h1, h2⟩ := hw
  have e1 : body_run_first.sl.r_1 arg1 arg4 arg5 arg6 arg7 x1 x4 x5 x6 x7 = k0_pay24 x1 x4 x5 x6 x7 := by
    unfold body_run_first.sl.r_1
    rw [View.readAt_rep_full arg1.view x1, View.readAt_rep_full arg4.view x4, View.readAt_rep_full arg5.view x5, View.readAt_rep_full arg6.view x6, View.readAt_rep_full arg7.view x7]
  have e2 : body_run_first.sl.r_2 arg2 x2 = k0_pay25 x2 := by
    unfold body_run_first.sl.r_2
    rw [View.readAt_rep_full arg2.view x2]
  have e3 : body_run_first.sl.r (F := F) arg3 x3 = k0_pay23 (F := F) x3 := by
    unfold body_run_first.sl.r
    rw [View.readAt_rep_full arg3.view x3]
  have e5 : body_run_first.sl.r_5 (F := F) arg3 x3 = mask (F := F) x3 := by
    unfold body_run_first.sl.r_5 body_run_first.sl.r_3 body_run_first.sl.r_4
    rw [View.readAt_rep_full arg3.view x3]
  have e6 : body_run_first.sl.v313 (F := F) arg3 x3 = lo (F := F) x3 := by unfold body_run_first.sl.v313; rw [e3]
  have e7 : body_run_first.sl.v315 (F := F) arg3 x3 = hi (F := F) x3 := by unfold body_run_first.sl.v315; rw [e3]
  ihave H8 := pointsTo_rep_of_read (c : Thread nD τ) arg8 _ fullShare (statX (k0_pay24 x1 x4 x5 x6 x7) (mask (F := F) x3) k0_pay21 16 le_rfl) ?_ $$ H8
  · rw [← e1, ← e5]
    generalize arg8.view.rep X = f0; revert f0
    iterate 16 refine statX_step_first arg8.view _ (body_run_first.sl.r_1 arg1 arg4 arg5 arg6 arg7 x1 x4 x5 x6 x7) (body_run_first.sl.r_5 (F := F) arg3 x3) k0_pay21 _ _ _ _ ?_ ?_
    · intro f; exact View.read_writes_full _ _ _ _ _
    all_goals rfl
  ihave H9 := pointsTo_rep_of_read (c : Thread nD τ) arg9 _ fullShare (statP (k0_pay25 x2) (mask (F := F) x3) k0_pay22 16 le_rfl) ?_ $$ H9
  · rw [← e2, ← e5]
    generalize arg9.view.rep P = f0; revert f0
    iterate 16 refine statP_step_first arg9.view _ (body_run_first.sl.r_2 arg2 x2) (body_run_first.sl.r_5 (F := F) arg3 x3) k0_pay22 _ _ _ _ ?_ ?_
    · intro f; exact View.read_writes_full _ _ _ _ _
    all_goals rfl
  have hchk : k0_chk1 (body_run_first.sl.v313 (F := F) arg3 x3) (body_run_first.sl.v315 (F := F) arg3 x3) := by rw [e6, e7]; exact h1
  have hall : ∀ k, k0_chk2 (cut (body_run_first.sl.r (F := F) arg3 x3) (body_run_first.sl.v313 (F := F) arg3 x3) (body_run_first.sl.v315 (F := F) arg3 x3) k) := by
    rw [e3, e6, e7]; exact h2
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [← outX_of_words x1 x3 x4 x5 x6 x7 k0_pay21 _ _ _ hchk e3 e6 e7]; iexact H8
  rw [← outP_of_words x2 x3 k0_pay22 _ _ _ hchk e3 e6 e7]; iexact H9

end Body

end Cert.Proof.KI
-- ==== Proof.KI.Launch.lean ====
/- The pipeline's proof data, the body obligation at every grid point, and the whole program's run. -/
module

public import proofs.«01_k».proof.Proof.KI.Body
public import Idealize.ShloMosaic.Lib.WordCmp
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fill runs at the first point only. -/
theorem isFirst_iff (t : Fin cfg0.N) : isFirst (grid0.coords t) ↔ t.val = 0 := by
  have ht : t.val < 4 := Nat.lt_of_lt_of_eq t.isLt N_0
  have e0 : (grid0.coords t 0).val = t.val / 1 % 4 := Pipeline.Grid.coords_val t 0 (by decide) rfl
  have e : t.val / 1 % 4 = t.val := by omega
  simp only [isFirst, e0, e]
  word_cmp

/-- The block of window `k` at a point, at its own shape. -/
abbrev b0 (c : Dev nD) (t : Fin cfg0.N) : Vec F S8192x128 .f32 := iblk m c 0 t
abbrev b1 (c : Dev nD) (t : Fin cfg0.N) : Vec F S8192x3 .f32 := iblk m c 1 t
abbrev b2 (c : Dev nD) (t : Fin cfg0.N) : Vec F S1x16x512 .i32 := iblk m c 2 t
abbrev b3 (c : Dev nD) (t : Fin cfg0.N) : Vec F S128x128 .f32 := iblk m c 3 t
abbrev b4 (c : Dev nD) (t : Fin cfg0.N) : Vec F S1x128 .f32 := iblk m c 4 t
abbrev b5 (c : Dev nD) (t : Fin cfg0.N) : Vec F S128x256 .f32 := iblk m c 5 t
abbrev b6 (c : Dev nD) (t : Fin cfg0.N) : Vec F S1x256 .f32 := iblk m c 6 t

/-- What a point makes of the feature maxima. -/
abbrev stepX (c : Dev nD) (t : Fin cfg0.N) (X : Vec F S16x256 .f32) : Vec F S16x256 .f32 :=
  outX (b0 m c t) (b2 m c t) (b3 m c t) (b4 m c t) (b5 m c t) (b6 m c t) X

/-- What a point makes of the position maxima. -/
abbrev stepP (c : Dev nD) (t : Fin cfg0.N) (P : Vec F S16x3 .f32) : Vec F S16x3 .f32 :=
  outP (b1 m c t) (b2 m c t) P

/-- The two outputs after each point: the fill and the first block, then block by block. -/
def held0 (c : Dev nD) : (n : ℕ) → n < cfg0.N → Vec F S16x256 .f32 × Vec F S16x3 .f32
  | 0, h => (stepX m c ⟨0, h⟩ k0_pay21, stepP m c ⟨0, h⟩ k0_pay22)
  | n + 1, h => (stepX m c ⟨n + 1, h⟩ (held0 c n (Nat.lt_of_succ_lt h)).1, stepP m c ⟨n + 1, h⟩ (held0 c n (Nat.lt_of_succ_lt h)).2)

/-- After the first point: one step from the fill. -/
theorem held0_first (c : Dev nD) (t : Fin cfg0.N) (h : t.val = 0) :
    held0 m c t.val t.isLt = (stepX m c t k0_pay21, stepP m c t k0_pay22) := by
  obtain ⟨n, hn⟩ := t; cases h; rfl

/-- After a later point: one step from the point before. -/
theorem held0_later (c : Dev nD) (t : Fin cfg0.N) (h : ¬ t.val = 0) :
    held0 m c t.val t.isLt = (stepX m c t (held0 m c (t.val - 1) (Nat.lt_of_le_of_lt (Nat.sub_le _ _) t.isLt)).1,
      stepP m c t (held0 m c (t.val - 1) (Nat.lt_of_le_of_lt (Nat.sub_le _ _) t.isLt)).2) := by
  obtain ⟨n, hn⟩ := t
  cases n with
  | zero => exact absurd rfl h
  | succ n => rfl

/-- The pipeline's proof data: the arrays as launched, an input's buffer at its block, the outputs' at `held0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (held0 m c t.val t.isLt).1
    | ⟨8, _⟩ => (held0 m c t.val t.isLt).2
  Φ _ := Pipeline.ΦA spec0 c
  q _ := fullShare
  owed _ := 0

/-- The arrays are as launched. -/
theorem A_eq (c : Dev nD) (w : Fin cfg0.W) : (dats m 0 c).A w = V m c (Pipeline.arrRef spec0 w) := by
  dsimp only [dats]

/-- What each buffer holds after a point. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (held0 m c t.val t.isLt).1 := by dsimp only [dats]
theorem after_8 (c : Dev nD) (t : Fin cfg0.N) : (dats m 0 c).after 8 t = (held0 m c t.val t.isLt).2 := by dsimp only [dats]

/-- An input's buffer holds its block before a point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- After the first point an output's buffer holds what the point before left. -/
theorem before_7 (c : Dev nD) (t : Fin cfg0.N) (h0 : ¬ t.val = 0) (d) :
    (dats m 0 c).before 7 t d = (held0 m c (t.val - 1) (Nat.lt_of_le_of_lt (Nat.sub_le _ _) t.isLt)).1 := by
  have hN : t.val < 4 := lt_of_lt_of_eq t.isLt (show cfg0.N = 4 from N_0)
  rw [Dat.before_out_kept _ 7 rfl t (by omega) (Bool.eq_false_iff.mpr fun h => by have := (flush0_7 _).mp h; dsimp only at this; omega)
    (fun _ => rfl) (fun _ _ => rfl)]
  dsimp only [dats]

/-- After the first point an output's buffer holds what the point before left. -/
theorem before_8 (c : Dev nD) (t : Fin cfg0.N) (h0 : ¬ t.val = 0) (d) :
    (dats m 0 c).before 8 t d = (held0 m c (t.val - 1) (Nat.lt_of_le_of_lt (Nat.sub_le _ _) t.isLt)).2 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dats]

/-- Each window's staging buffer at a point. -/
abbrev st0 (t : Fin cfg0.N) : Memref sig .tc .vmem S8192x128 .f32 := win0_0.stage (cfg0.slots t 0)
abbrev st1 (t : Fin cfg0.N) : Memref sig .tc .vmem S8192x3 .f32 := win0_1.stage (cfg0.slots t 1)
abbrev st2 (t : Fin cfg0.N) : Memref sig .tc .vmem S1x16x512 .i32 := win0_2.stage (cfg0.slots t 2)
abbrev st3 (t : Fin cfg0.N) : Memref sig .tc .vmem S128x128 .f32 := win0_3.stage (cfg0.slots t 3)
abbrev st4 (t : Fin cfg0.N) : Memref sig .tc .vmem S1x128 .f32 := win0_4.stage (cfg0.slots t 4)
abbrev st5 (t : Fin cfg0.N) : Memref sig .tc .vmem S128x256 .f32 := win0_5.stage (cfg0.slots t 5)
abbrev st6 (t : Fin cfg0.N) : Memref sig .tc .vmem S1x256 .f32 := win0_6.stage (cfg0.slots t 6)
abbrev st7 (t : Fin cfg0.N) : Memref sig .tc .vmem S16x256 .f32 := win0_7.stage (cfg0.slots t 7)
abbrev st8 (t : Fin cfg0.N) : Memref sig .tc .vmem S16x3 .f32 := win0_8.stage (cfg0.slots t 8)

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t))

set_option maxHeartbeats 1600000 in
/-- The body at any point, from the two runs. -/
theorem sound_body (hW : ∀ c t, Words (F := F) (b2 m c t)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val = 0
  · rw [held0_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8]
    · iapply (body_run_first c (grid0.coords t) _ _ _ _ _ _ _ _ _ _ _ _ _ _ _ _ _ _ (b0 m c t) (b1 m c t) (b2 m c t) (b3 m c t) (b4 m c t) (b5 m c t) (b6 m c t) _ _ ((isFirst_iff t).mpr h0) (hW c t))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro %_ ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [held0_later m c t h0]
    simp only [before_7 m c t h0, before_8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8]
    · iapply (body_run c (grid0.coords t) _ _ _ _ _ _ _ _ _ _ _ _ _ _ _ _ _ _ (b0 m c t) (b1 m c t) (b2 m c t) (b3 m c t) (b4 m c t) (b5 m c t) (b6 m c t) _ _ (fun h => h0 ((isFirst_iff t).mp h)) (hW c t))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro %_ ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The function that a grid point calls. -/
theorem defs₀_row (t : Fin cfg0.N) :
    defs₀ (F := F) .tc cfg0.body (cfg0.bodyArgs t (cfg0.slots t)) = bodyAt0 t := by
  unfold defs₀; rw [Defs.onTc_tc]

/-- The library's obligation of the body, at every point. -/
theorem body_obligation (hW : ∀ c t, Words (F := F) (b2 m c t)) (c : Dev nD) : BodyObligation (dats (F := F) m 0 c) (defs₀ (F := F)) Variants.none () Set.univ := fun t => by
  rw [bigSep_W0, bigSep_W0, defs₀_row]
  exact triple_restated (sound_body m hW c t) rfl .rfl fun _ => .rfl

set_option backward.isDefEq.respectTransparency.types false in
set_option maxHeartbeats 800000 in
/-- The whole program's run, where the bodies' assumptions hold: it ends with the arrays at what the proof data say,
    and no semaphore raised. -/
theorem run_main (hW : ∀ c t, Words (F := F) (b2 m c t)) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m hW c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as launched, and no semaphore is raised. -/
theorem frame (hW : ∀ c t, Words (F := F) (b2 m c t)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ hW)))
    ((θ_run defs _ _).mono (fun _ h => h.2) (run_main m ρ hW))

end Cert.Proof.KI
-- ==== Proof.KI.Words.lean ====
/- The words of a sorted block: its boundaries' rows, counted, and why the body's assumptions hold of them. -/
module

public import proofs.«01_k».proof.Proof.KI.Body
public import Idealize.ShloMosaic.Lib.WordSum
public import Idealize.ShloMosaic.Lib.Affine

@[expose] public section

set_option maxRecDepth 16384

noncomputable section

namespace Cert.Proof.KI

open Cert.KernelIdeal Cert.KernelIdeal.Gen
open Idealize.ShloMosaic

variable {F : FTy → Type} [FloatOps F]

/-- The block's table `v` holds, row by row, the words of the segments `q 0, q 1, …`, which ascend and are below 16. -/
structure Table (v : IVec S16x512 32) (q : ℕ → ℕ) : Prop where
  holds : ∀ y, v y = BitVec.ofNat 32 (q (512 * (y 0).val + (y 1).val))
  mono : Monotone q
  lt : ∀ n, q n < 16

/-- How many of the block's rows belong to a segment before `s`. -/
def below (q : ℕ → ℕ) (s : ℕ) : ℕ := ((Finset.range 8192).filter fun n => q n < s).card

/-- A count of rows is at most the block's. -/
theorem below_le (q : ℕ → ℕ) (s : ℕ) : below q s ≤ 8192 :=
  (Finset.card_le_card (Finset.filter_subset _ _)).trans (Finset.card_range 8192).le

/-- In a sorted block the rows before segment `s` are the first `below q s`. -/
theorem lt_below_iff {q : ℕ → ℕ} (hq : Monotone q) (s : ℕ) {n : ℕ} (hn : n < 8192) : n < below q s ↔ q n < s := by
  constructor
  · intro h
    by_contra hs
    have hsub : (Finset.range 8192).filter (fun n => q n < s) ⊆ Finset.range n := by
      intro k hk
      rw [Finset.mem_filter] at hk
      rw [Finset.mem_range]
      by_contra hkn
      exact absurd (hq (not_lt.mp hkn)) (by omega)
    have := Finset.card_le_card hsub
    rw [Finset.card_range] at this
    unfold below at h; omega
  · intro h
    have hsub : Finset.range (n + 1) ⊆ (Finset.range 8192).filter (fun n => q n < s) := by
      intro k hk
      rw [Finset.mem_range] at hk
      rw [Finset.mem_filter, Finset.mem_range]
      have := hq (show k ≤ n by omega)
      omega
    have := Finset.card_le_card hsub
    rw [Finset.card_range] at this
    unfold below; omega

/-- A sum over a block's 16 by 512 indices, as one over its rows in order. -/
theorem sum_block (f : ℕ → ℕ) : ∑ y : S16x512.Idx, f (512 * (y 0).val + (y 1).val) = ∑ n ∈ Finset.range 8192, f n := by
  have e : ∀ y : S16x512.Idx, f (512 * (y 0).val + (y 1).val) = f (S16x512.rowMajor y).val := fun y => by
    rw [Shape.rowMajor_val_two]; congr 1; show _ = (y 0).val * 512 + _; omega
  simp only [e]
  rw [Equiv.sum_comp S16x512.rowMajor fun n => f n.val, Fin.sum_univ_eq_sum_range f S16x512.numel]
  rfl

/-- A word's printed count of the block's rows before segment `s`. -/
abbrev countW (v : IVec S16x512 32) (w : BitVec 32) : BitVec 32 :=
  extractAt ![0, 0, 0] (shapeCast S1x1x1 (multiReductionI .add [1, 2] S1
    (shapeCast S1x16x512 (extui 32 (cmpi .slt v (broadcast S16x512 w)) natLt_1_32) shapeCasts_S16x512_S1x16x512) 0#32 reduces_S1x16x512_S1 rfl)
    shapeCasts_S1_S1x1x1) inpos_S1x1x1_p0_0_0

/-- Comparing small words is comparing numbers. -/
theorem slt_ofNat {a b : ℕ} (ha : a < 2 ^ 31) (hb : b < 2 ^ 31) :
    (IntOp.cmpi .slt (BitVec.ofNat 32 a) (BitVec.ofNat 32 b)) = BitVec.ofBool (decide (a < b)) := by
  unfold IntOp.cmpi
  congr 1
  rw [BitVec.slt_eq_decide]
  have h1 : (BitVec.ofNat 32 a).toInt = a := by rw [BitVec.toInt_ofNat']; exact Int.bmod_eq_of_le (by omega) (by omega)
  have h2 : (BitVec.ofNat 32 b).toInt = b := by rw [BitVec.toInt_ofNat']; exact Int.bmod_eq_of_le (by omega) (by omega)
  rw [h1, h2]; simp

/-- The counting sum is the count. -/
theorem countW_eq {v : IVec S16x512 32} {q : ℕ → ℕ} (T : Table v q) {s : ℕ} (hs : s < 2 ^ 31) :
    countW v (BitVec.ofNat 32 s) = BitVec.ofNat 32 (below q s) := by
  have key : ∑ i : S1x16x512.Idx, (shapeCast S1x16x512 (extui 32 (cmpi .slt v (broadcast S16x512 (BitVec.ofNat 32 s))) natLt_1_32) shapeCasts_S16x512_S1x16x512 i).toNat
      = below q s := by
    unfold shapeCast
    rw [Equiv.sum_comp (Shape.reshapeEquiv _) fun y => (extui 32 (cmpi .slt v (broadcast S16x512 (BitVec.ofNat 32 s))) natLt_1_32 y).toNat]
    have e : ∀ y : S16x512.Idx, (extui 32 (cmpi .slt v (broadcast S16x512 (BitVec.ofNat 32 s))) natLt_1_32 y).toNat
        = (fun n => if q n < s then 1 else 0) (512 * (y 0).val + (y 1).val) := fun y => by
      show ((IntOp.cmpi .slt (v y) (BitVec.ofNat 32 s)).setWidth 32).toNat = _
      rw [T.holds, slt_ofNat (by have := T.lt (512 * (y 0).val + (y 1).val); omega) hs]
      by_cases h : q (512 * (y 0).val + (y 1).val) < s <;> simp [h]
    simp only [e]
    rw [sum_block fun n => if q n < s then 1 else 0, below, Finset.card_filter]
  have hall : ∀ j : S1.Idx, (Finset.univ.filter fun i => reduces_S1x16x512_S1.drop i = j) = Finset.univ := fun j => by
    refine Finset.filter_true_of_mem fun i _ => funext fun b => Fin.ext ?_
    have h1 := (reduces_S1x16x512_S1.drop i b).isLt; have h2 := (j b).isLt
    have : S1.size b = 1 := by fin_cases b; rfl
    omega
  apply BitVec.eq_of_toNat_eq
  have hb := below_le q s
  refine (WordSum.toNat_multiReductionI_add _ reduces_S1x16x512_S1 rfl _ (by rw [hall, key]; omega)).trans ?_
  rw [hall, key, BitVec.toNat_ofNat, Nat.mod_eq_of_lt (by omega)]

/-- A row's number rounded down to the chunk's. -/
theorem chunk_eq {w : ℕ} (hw : w < 2 ^ 31) : chunk (BitVec.ofNat 32 w) = BitVec.ofNat 32 (w / 512 * 512) := by
  have hi : Affine.IsInt (BitVec.ofNat 32 w) w := Affine.ofNat w ⟨rfl, hw⟩
  have h512 : Affine.IsInt 512#32 512 := Affine.ofNat 512 ⟨rfl, by omega⟩
  have hd : Affine.IsInt (Scalar.divsi (BitVec.ofNat 32 w) 512#32) (w / 512 : ℕ) := Affine.divsi hi h512 ⟨by simp, by omega, by omega⟩
  have hsel : ∀ x y : BitVec 32, Scalar.select (Scalar.andi
      (Scalar.cmpi .ne (Scalar.subi (Scalar.extui (Scalar.cmpi .sgt (BitVec.ofNat 32 w) 0#32) : BitVec 32) (Scalar.extui (Scalar.cmpi .slt (BitVec.ofNat 32 w) 0#32)))
        (Scalar.subi (Scalar.extui (Scalar.cmpi .sgt 512#32 0#32)) (Scalar.extui (Scalar.cmpi .slt 512#32 0#32))))
      (Scalar.cmpi .ne (Scalar.remsi (BitVec.ofNat 32 w) 512#32) 0#32)) x y = y := by
    intro x y
    rcases Nat.eq_zero_or_pos w with h | h
    · subst h; rfl
    · have e1 : Scalar.cmpi .sgt (BitVec.ofNat 32 w) 0#32 = 1#1 := by
        show BitVec.ofBool (BitVec.slt 0#32 (BitVec.ofNat 32 w)) = _
        have := slt_ofNat (a := 0) (b := w) (by omega) hw
        unfold IntOp.cmpi at this
        rw [show (0#32 : BitVec 32) = BitVec.ofNat 32 0 from rfl]
        rw [this]; simp [h]
      have e2 : Scalar.cmpi .slt (BitVec.ofNat 32 w) 0#32 = 0#1 := by
        have := slt_ofNat (a := w) (b := 0) hw (by omega)
        show IntOp.cmpi .slt (BitVec.ofNat 32 w) (BitVec.ofNat 32 0) = _
        rw [this]; simp
      rw [e1, e2]
      have e3 : Scalar.cmpi .ne (Scalar.subi (Scalar.extui (1#1 : BitVec 1) : BitVec 32) (Scalar.extui (0#1 : BitVec 1)))
        (Scalar.subi (Scalar.extui (Scalar.cmpi .sgt 512#32 0#32)) (Scalar.extui (Scalar.cmpi .slt 512#32 0#32))) = 0#1 := by decide
      rw [e3]
      show (if (0#1 &&& _ : BitVec 1) = 1#1 then x else y) = y
      rw [BitVec.zero_and]; rfl
  have hm : Affine.IsInt (chunk (BitVec.ofNat 32 w)) (w / 512 * 512 : ℕ) := by
    unfold chunk
    rw [hsel]
    exact Affine.muli hd h512 ⟨by simp, by omega, by omega⟩
  have hr : Affine.IsInt (BitVec.ofNat 32 (w / 512 * 512)) (w / 512 * 512 : ℕ) := Affine.ofNat _ ⟨rfl, by omega⟩
  unfold Affine.IsInt at hm hr
  exact BitVec.eq_of_toInt_eq (hm.trans hr.symm)

/-- A chunk's start, as a number. -/
theorem chunk_toNat {w : ℕ} (hw : w < 2 ^ 31) : (chunk (BitVec.ofNat 32 w)).toNat = w / 512 * 512 := by
  rw [chunk_eq hw, BitVec.toNat_ofNat, Nat.mod_eq_of_lt (by omega)]

/-- Bounds of the segments' range satisfy what the body assumes of them: the loop is one, and its rows are rows. -/
theorem chk1_of : ∀ a b : Fin 16, a ≤ b → k0_chk1 (BitVec.ofNat 32 a.val) (BitVec.ofNat 32 b.val) := by decide +kernel

/-- The boundary loop's trips. -/
theorem trips_of : ∀ a b : Fin 16, a ≤ b → (k0_t1_loop (BitVec.ofNat 32 a.val) (BitVec.ofNat 32 b.val)).trips = b.val - a.val := by decide +kernel

/-- The boundary of each trip. -/
theorem seg_of (a b : ℕ) (k : Fin (k0_t1_loop (BitVec.ofNat 32 a) (BitVec.ofNat 32 b)).trips) :
    seg (BitVec.ofNat 32 a) (BitVec.ofNat 32 b) k = BitVec.ofNat 32 (a + 1 + k.val) := by
  show BitVec.ofNat 32 a + 1#32 + (0#32 + BitVec.ofNat 32 k.val * 1#32) = _
  rw [BitVec.mul_one, BitVec.zero_add, BitVec.ofNat_add, BitVec.ofNat_add]

section Block

variable {x3 : Vec F S1x16x512 .i32} {q : ℕ → ℕ} (T : Table (k0_pay23 (F := F) x3) q)
include T

/-- The block's first and last segments. -/
theorem lo_eq : lo (F := F) x3 = BitVec.ofNat 32 (q 0) := T.holds _
theorem hi_eq : hi (F := F) x3 = BitVec.ofNat 32 (q 8191) := T.holds _

/-- A trip's count, of its segment's number. -/
theorem cut_of (a b : ℕ) (k : Fin (k0_t1_loop (BitVec.ofNat 32 a) (BitVec.ofNat 32 b)).trips) (h : a + 1 + k.val < 2 ^ 31) :
    cut (k0_pay23 (F := F) x3) (BitVec.ofNat 32 a) (BitVec.ofNat 32 b) k = BitVec.ofNat 32 (below q (a + 1 + k.val)) := by
  have := countW_eq T h
  rw [← seg_of a b k] at this
  exact this

/-- A sorted block's words are as the body assumes. -/
theorem words_of_table : Words (F := F) x3 := by
  have h0 := T.lt 0
  have h1 := T.lt 8191
  have hle := T.mono (show 0 ≤ 8191 by omega)
  unfold Words
  rw [lo_eq T, hi_eq T]
  refine ⟨chk1_of ⟨q 0, h0⟩ ⟨q 8191, h1⟩ hle, fun k => ?_⟩
  have hk := k.isLt
  have hk' : k.val < q 8191 - q 0 := lt_of_lt_of_eq hk (trips_of ⟨q 0, h0⟩ ⟨q 8191, h1⟩ hle)
  rw [cut_of T _ _ k (by omega)]
  have hb : below q (q 0 + 1 + k.val) < 8192 := by
    have := (lt_below_iff T.mono (q 0 + 1 + k.val) (n := 8191) (by omega)).not.mpr (by omega)
    omega
  have hc := chunk_toNat (w := below q (q 0 + 1 + k.val)) (by omega)
  constructor
  · intro a
    have e : k0_off1 (BitVec.ofNat 32 (below q (q 0 + 1 + k.val))) = ![(chunk (BitVec.ofNat 32 (below q (q 0 + 1 + k.val)))).toNat, 0] := rfl
    rw [e, hc]
    fin_cases a
    · show _ / 512 * 512 + 512 ≤ 8192; omega
    · show 0 + 128 ≤ 128; omega
  · intro a
    have e : k0_off2 (BitVec.ofNat 32 (below q (q 0 + 1 + k.val))) = ![(chunk (BitVec.ofNat 32 (below q (q 0 + 1 + k.val)))).toNat, 0] := rfl
    rw [e, hc]
    fin_cases a
    · show _ / 512 * 512 + 512 ≤ 8192; omega
    · show 0 + 3 ≤ 3; omega

end Block

end Cert.Proof.KI
-- ==== Proof.KI.Blocks.lean ====
/- The windows' blocks, read from the arguments: which rows, points and segments a grid point is given; and the precondition
   read of the segments. -/
module

public import proofs.«01_k».proof.Proof.KI.Launch
public import proofs.«01_k».proof.Proof.KI.Words
public import Idealize.ShloMosaic.Lib.ReduceAll
public import Idealize.ShloMosaic.Lib.Pipeline.ValueKit
public import Idealize.ShloMosaic.Lib.ValueLayout
public import proofs.«01_k».proof.Pre_sorted_segments

@[expose] public section

set_option maxRecDepth 16384

noncomputable section

namespace Cert.Proof.KI

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ)

/-- The index maps of the windows that move: the grid point's block. -/
theorem index0 : ∀ t, win0_0.index t = ![t.val, 0] := by decide +kernel
theorem index1 : ∀ t, win0_1.index t = ![t.val, 0] := by decide +kernel
theorem index2 : ∀ t, win0_2.index t = ![t.val, 0, 0] := by decide +kernel
theorem index3 : ∀ t, win0_3.index t = ![0, 0] := by decide +kernel
theorem index4 : ∀ t, win0_4.index t = ![0, 0] := by decide +kernel
theorem index5 : ∀ t, win0_5.index t = ![0, 0] := by decide +kernel
theorem index6 : ∀ t, win0_6.index t = ![0, 0] := by decide +kernel

/-- The grid has four points. -/
theorem point_lt (t : Fin cfg0.N) : t.val < 4 := Nat.lt_of_lt_of_eq t.isLt N_0

/-- Row `r` of a point's block, as a row of the whole array. -/
abbrev rowOf (t : Fin cfg0.N) (r : Fin 8192) : Fin 32768 := ⟨8192 * t.val + r.val, by have := point_lt t; omega⟩

/-- Each window's block at a point, read from its argument: the rows of the features, -/
theorem b0_apply (c : Dev nD) (t : Fin cfg0.N) (r : Fin 8192) (j : Fin 128) :
    b0 m c t (ix2 r j) = m ((c : Thread nD τ).loc main_arg0) (ix2 (rowOf t r) j) := by
  blk_ext [iblk, V_main_arg0, index0 t]

/-- of the positions, -/
theorem b1_apply (c : Dev nD) (t : Fin cfg0.N) (r : Fin 8192) (j : Fin 3) :
    b1 m c t (ix2 r j) = m ((c : Thread nD τ).loc main_arg1) (ix2 (rowOf t r) j) := by
  blk_ext [iblk, V_main_arg1, index1 t]

/-- the first layer's weights, -/
theorem b3_apply (c : Dev nD) (t : Fin cfg0.N) (i : Fin 128) (j : Fin 128) :
    b3 m c t (ix2 i j) = m ((c : Thread nD τ).loc main_arg3) (ix2 i j) := by
  blk_ext [iblk, V_main_arg3, index3 t]

/-- the second layer's, -/
theorem b5_apply (c : Dev nD) (t : Fin cfg0.N) (i : Fin 128) (j : Fin 256) :
    b5 m c t (ix2 i j) = m ((c : Thread nD τ).loc main_arg5) (ix2 i j) := by
  blk_ext [iblk, V_main_arg5, index5 t]

/-- of the segments, -/
theorem b2_apply (c : Dev nD) (t : Fin cfg0.N) (i : Fin 16) (j : Fin 512) :
    b2 m c t (ix3 0 i j) = m ((c : Thread nD τ).loc main_arg2) (ix1 ⟨8192 * t.val + (512 * i.val + j.val), by have := point_lt t; omega⟩) := by
  have ht := point_lt t
  have e : b2 m c t (ix3 0 i j) = V m c main_v0 (ix3 ⟨t.val, ht⟩ i j) := by blk_ext [iblk, index2 t]
  rw [e]
  entry_read
  exact shapeCast_apply (s := S32768) (t := S4x16x512) _ shapeCasts_S32768_S4x16x512 (ix3 ⟨t.val, ht⟩ i j) (ix1 ⟨8192 * t.val + (512 * i.val + j.val), by omega⟩) (by
    rw [Shape.rowMajor_val_three, Shape.rowMajor_val_one]
    show 8192 * t.val + (512 * i.val + j.val) = (t.val * 16 + i.val) * 512 + j.val
    omega)

/-- the first layer's biases, -/
theorem b4_apply (c : Dev nD) (t : Fin cfg0.N) (j : Fin 128) :
    b4 m c t (ix2 0 j) = m ((c : Thread nD τ).loc main_arg4) (ix1 j) := by
  have e : b4 m c t (ix2 0 j) = V m c main_v1 (ix2 0 j) := by blk_ext [iblk, index4 t]
  rw [e]
  entry_read
  exact shapeCast_apply (s := S128) (t := S1x128) _ shapeCasts_S128_S1x128 (ix2 0 j) (ix1 j) (by
    rw [Shape.rowMajor_val_two, Shape.rowMajor_val_one]
    show j.val = 0 * 128 + j.val
    omega)

/-- and the second layer's. -/
theorem b6_apply (c : Dev nD) (t : Fin cfg0.N) (j : Fin 256) :
    b6 m c t (ix2 0 j) = m ((c : Thread nD τ).loc main_arg6) (ix1 j) := by
  have e : b6 m c t (ix2 0 j) = V m c main_v2 (ix2 0 j) := by blk_ext [iblk, index6 t]
  rw [e]
  entry_read
  exact shapeCast_apply (s := S256) (t := S1x256) _ shapeCasts_S256_S1x256 (ix2 0 j) (ix1 j) (by
    rw [Shape.rowMajor_val_two, Shape.rowMajor_val_one]
    show j.val = 0 * 256 + j.val
    omega)

/-! ## The segments -/

/-- The segment of row `n`, the last row's for every `n` beyond the array. -/
def Seg (v : IVec Pre_sorted_segments.S32768 32) (n : ℕ) : ℕ := (v (ix1 ⟨min n 32767, by omega⟩)).toNat

/-- The precondition, read: the rows' segments ascend and are below 16. -/
structure Sorted (v : IVec Pre_sorted_segments.S32768 32) : Prop where
  mono : Monotone (Seg v)
  lt : ∀ n, Seg v n < 16

instance : Subsingleton Pre_sorted_segments.S_.Idx := ⟨fun a b => funext fun i => nomatch i⟩

/-- A slice of all but one of the rows, at row `n`. -/
theorem slice_at (v : IVec Pre_sorted_segments.S32768 32) (off : Fin 1 → ℕ) (o : ℕ) (ho : off 0 = o) (h : Pre_sorted_segments.S32768.Slices off Pre_sorted_segments.S32767)
    (n : ℕ) (hn : n < 32767) (hon : o + n < 32768) :
    extractStridedSlice Pre_sorted_segments.S32767 off v h (ix1 ⟨n, hn⟩) = v (ix1 ⟨o + n, hon⟩) :=
  extractStridedSlice_apply off v h (ix1 ⟨n, hn⟩) (ix1 ⟨o + n, hon⟩) fun a => by
    obtain rfl : a = 0 := Subsingleton.elim (α := Fin 1) _ _
    rw [ho]; rfl

/-- The precondition gives the segments sorted and below 16. -/
theorem sorted_of_pre [Pre_sorted_segments.Facts] {a0 : FVec F Pre_sorted_segments.S32768x128 .f32} {a1 : FVec F Pre_sorted_segments.S32768x3 .f32} {v : IVec Pre_sorted_segments.S32768 32}
    {a3 : FVec F Pre_sorted_segments.S128x128 .f32} {a4 : FVec F Pre_sorted_segments.S128 .f32} {a5 : FVec F Pre_sorted_segments.S128x256 .f32} {a6 : FVec F Pre_sorted_segments.S256 .f32}
    (h : Pre_sorted_segments.fn a0 a1 v a3 a4 a5 a6 = fun _ => 1#1) : Sorted v := by
  have h0 := congrFun h (fun i => nomatch i)
  dsimp only [Pre_sorted_segments.fn] at h0
  obtain ⟨hr, hs⟩ := IntOp.andi_eq_one.1 h0
  have hr' : ∀ i, 0 ≤ (v i).toInt ∧ (v i).toInt < 16 := fun i => by
    have := Host.reduce_andi_all _ _ _ _ _ hr i
    obtain ⟨h1, h2⟩ := IntOp.andi_eq_one.1 this
    exact ⟨IntOp.cmpi_sge.1 h1, IntOp.cmpi_slt.1 h2⟩
  have hn : ∀ i, ((v i).toNat : ℤ) = (v i).toInt := fun i => by
    obtain ⟨h1, h2⟩ := hr' i
    have := BitVec.toInt_eq_toNat_cond (v i)
    have hb := (v i).isLt
    split at this <;> omega
  have hs' : ∀ n (hn : n + 1 < 32768), (v (ix1 ⟨n, by omega⟩)).toInt ≤ (v (ix1 ⟨n + 1, hn⟩)).toInt := fun n hn => by
    have := IntOp.cmpi_sge.1 (Host.reduce_andi_all _ _ _ _ _ hs (ix1 ⟨n, by omega⟩))
    rwa [slice_at v ![0] 0 rfl _ n (by omega) (by omega), slice_at v ![1] 1 rfl _ n (by omega) (by omega),
      show (⟨0 + n, _⟩ : Fin 32768) = ⟨n, by omega⟩ from Fin.ext (Nat.zero_add n), show (⟨1 + n, _⟩ : Fin 32768) = ⟨n + 1, hn⟩ from Fin.ext (Nat.add_comm 1 n)] at this
  refine ⟨monotone_nat_of_le_succ fun n => ?_, fun n => ?_⟩
  · unfold Seg
    by_cases hlt : n + 1 < 32768
    · have e1 : min n 32767 = n := by omega
      have e2 : min (n + 1) 32767 = n + 1 := by omega
      have := hs' n hlt
      simp only [e1, e2]
      have := hn (ix1 ⟨n, by omega⟩)
      have := hn (ix1 ⟨n + 1, hlt⟩)
      omega
    · have e1 : min n 32767 = 32767 := by omega
      have e2 : min (n + 1) 32767 = 32767 := by omega
      simp only [e1, e2]; exact le_rfl
  · have := hn (ix1 ⟨min n 32767, by omega⟩)
    have := (hr' (ix1 ⟨min n 32767, by omega⟩)).2
    unfold Seg; omega

/-- The whole array's segments on a core. -/
abbrev segs (c : Dev nD) : IVec Pre_sorted_segments.S32768 32 := m ((c : Thread nD τ).loc main_arg2)

/-- The block's table is the block without its first axis. -/
theorem table_apply (x3 : Vec F S1x16x512 .i32) (y : S16x512.Idx) :
    k0_pay23 (F := F) x3 y = x3 (ix3 0 (⟨(y 0).val, (y 0).isLt⟩ : Fin 16) (⟨(y 1).val, (y 1).isLt⟩ : Fin 512)) :=
  shapeCast_apply (s := S1x16x512) (t := S16x512) x3 shapeCasts_S1x16x512_S16x512 y _ (by
    rw [Shape.rowMajor_val_three, Shape.rowMajor_val_two]
    show (0 * 16 + (y 0).val) * 512 + (y 1).val = (y 0).val * 512 + (y 1).val
    omega)

/-- A point's block of a sorted array is a table of its rows' segments. -/
theorem table_of_sorted {c : Dev nD} (S : Sorted (segs m c)) (t : Fin cfg0.N) :
    Table (k0_pay23 (F := F) (b2 m c t)) (fun n => Seg (segs m c) (8192 * t.val + n)) where
  holds y := by
    have ht := point_lt t
    have h1 : (y 0).val < 16 := (y 0).isLt
    have h2 : (y 1).val < 512 := (y 1).isLt
    rw [table_apply, b2_apply m c t ⟨(y 0).val, h1⟩ ⟨(y 1).val, h2⟩]
    unfold Seg
    have em : min (8192 * t.val + (512 * (y 0).val + (y 1).val)) 32767 = 8192 * t.val + (512 * (y 0).val + (y 1).val) := by omega
    simp only [em]
    rw [BitVec.ofNat_toNat, BitVec.setWidth_eq]
  mono a b h := S.mono (by omega)
  lt n := S.lt _

/-- Sorted segments give every block the bounds that its run asks for. -/
theorem words_of_sorted (h : ∀ c, Sorted (segs m c)) (c : Dev nD) (t : Fin cfg0.N) : Words (F := F) (b2 m c t) :=
  words_of_table (table_of_sorted m (h c) t)

end Cert.Proof.KI
-- ==== Proof.Same.lean ====
/- The kernel and its idealized form print alike: over any reading of the floating-point types they are one program. -/
module

public import proofs.«01_k».proof.Proof.KI.Blocks
public import proofs.«01_k».proof.Proof.Gen.Kernel
public import proofs.«01_k».proof.Defs
public import proofs.«01_k».proof.Proof.Gen.Pre_sorted_segments

@[expose] public section

set_option maxRecDepth 65536

namespace Cert.Proof.Same

open Idealize.ShloMosaic Idealize.SL.Sem

variable {F : FTy → Type} [FloatOps F]

/-- The two print the same functions for their launches, -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg _ (funext fun l => funext fun x => ?_)
  match l, x with
  | 0, (t, s) => rfl

/-- for their whole tables of functions, -/
theorem defs_eq : @Cert.Kernel.defs F _ Cert.Kernel.Gen.facts = @Cert.KernelIdeal.defs F _ Cert.KernelIdeal.Gen.facts := by
  unfold Cert.Kernel.defs Cert.KernelIdeal.defs
  exact congrArg (Pipeline.defs Cert.KernelIdeal.pcfgs) defs₀_eq

/-- and the same main program. -/
theorem main_eq : @Cert.Kernel.main F _ = @Cert.KernelIdeal.main F _ := rfl

/-- The idealized kernel leaves its arguments as they were, and every counter at zero. -/
theorem quiescent_kernelIdeal : @Cert.quiescent_KernelIdeal Cert.KernelIdeal.Gen.facts Cert.Pre_sorted_segments.Gen.facts :=
  fun m g hP => KI.frame m g (KI.words_of_sorted m fun c => KI.sorted_of_pre (hP c))

/-- So does the kernel at its own bits. -/
theorem quiescent_kernel : @Cert.quiescent_Kernel Cert.Kernel.Gen.facts Cert.Pre_sorted_segments.Gen.facts := fun m g hP => by
  rw [defs_eq, main_eq]
  exact KI.frame (F := Bits) m g (KI.words_of_sorted (F := Bits) m fun c => KI.sorted_of_pre (hP c))

end Cert.Proof.Same
-- ==== Proof.KI.Max.lean ====
/- Maxima over rows, on the extended reals: what it means that one is at most `z`. -/
module

public import proofs.«01_k».proof.Proof.KI.Words
public import Idealize.ShloMosaic.Lib.Pointwise

@[expose] public section

set_option maxRecDepth 16384

noncomputable section

namespace Cert.Proof.KI

open Cert.KernelIdeal Cert.KernelIdeal.Gen
open Idealize.ShloMosaic

/-- The word the maxima start from is minus infinity. -/
theorem ofBits_bot : FloatOps.ofBits (F := Ideal) .f32 0xFF800000#32 = (⊥ : EReal) := by
  show Ideal.ofBits .f32 0xFF800000#32 = ⊥
  simp [Ideal.ofBits, Ideal.ieee]

/-- A maximum folded from minus infinity is at most `z` exactly when each of its terms is. -/
theorem fold_le {n : ℕ} (f : Fin n → EReal) (z : EReal) :
    Finset.univ.fold max (FloatOps.ofBits (F := Ideal) .f32 0xFF800000#32) f ≤ z ↔ ∀ k, f k ≤ z := by
  rw [ofBits_bot, Finset.fold_max_le]
  simp

/-- A maximum over the rows of a matrix. -/
theorem rows_le {R C : ℕ} (v : FVec Ideal ⟨2, ![R, C]⟩ .f32) (h : (⟨2, ![R, C]⟩ : Shape).Reduces [0] ⟨1, ![C]⟩) (j : Fin C) (z : EReal) :
    multiReduction .maximumf [0] ⟨1, ![C]⟩ v 0xFF800000#32 h (.inl rfl) rfl (ix1 j) ≤ z ↔ ∀ r : Fin R, v (ix2 r j) ≤ z := by
  simp only [pointwise]
  exact fold_le _ z

/-- A maximum over the middle axis of a stack of matrices. -/
theorem middle_le {A R C : ℕ} (v : FVec Ideal ⟨3, ![A, R, C]⟩ .f32) (h : (⟨3, ![A, R, C]⟩ : Shape).Reduces [1] ⟨2, ![A, C]⟩) (i : Fin A) (j : Fin C) (z : EReal) :
    multiReduction .maximumf [1] ⟨2, ![A, C]⟩ v 0xFF800000#32 h (.inl rfl) rfl (ix2 i j) ≤ z ↔ ∀ r : Fin R, v (ix3 i r j) ≤ z := by
  simp only [pointwise]
  exact fold_le _ z

/-- The same, as the host takes it. -/
theorem host_le {A R C : ℕ} (v : FVec Ideal ⟨3, ![A, R, C]⟩ .f32) (h : (⟨3, ![A, R, C]⟩ : Shape).ReducesTo [1] ⟨2, ![A, C]⟩) (hu) (i : Fin A) (j : Fin C) (z : EReal) :
    Host.reduce FloatOps.maximumf v (constant ⟨0, ![]⟩ .f32 0xFF800000#32) h hu (ix2 i j) ≤ z ↔ ∀ r : Fin R, v (ix3 i r j) ≤ z := by
  simp only [pointwise]
  exact fold_le _ z

/-- The mask a row is added: nothing where it counts, minus infinity where it does not. -/
def mk (p : Prop) [Decidable p] : EReal := if p then 0 else ⊥

/-- A masked value is at most `z` exactly when it is so where it counts. -/
theorem add_mk_le (p : Prop) [Decidable p] (x z : EReal) : x + mk p ≤ z ↔ (p → x ≤ z) := by
  unfold mk
  by_cases h : p <;> simp [h]

/-- A row raised by the maximum of the rows of `v` that the mask column keeps. -/
theorem raised_le {R C : ℕ} (v : FVec Ideal ⟨2, ![R, C]⟩ .f32) (m : FVec Ideal ⟨2, ![R, 1]⟩ .f32) (row : Vec Ideal ⟨2, ![1, C]⟩ .f32)
    (hb : (⟨2, ![R, 1]⟩ : Shape).Broadcasts ⟨2, ![R, C]⟩) (h : (⟨2, ![R, C]⟩ : Shape).Reduces [0] ⟨1, ![C]⟩)
    (h1 : (⟨2, ![1, C]⟩ : Shape).ShapeCasts ⟨2, ![1, C]⟩) (h2 : (⟨1, ![C]⟩ : Shape).ShapeCasts ⟨2, ![1, C]⟩)
    (M : Fin R → Prop) [DecidablePred M] (hm : ∀ r, m (ix2 r 0) = mk (M r)) (j : Fin C) (z : EReal) :
    maximumf (shapeCast ⟨2, ![1, C]⟩ row h1)
      (shapeCast ⟨2, ![1, C]⟩ (multiReduction .maximumf [0] ⟨1, ![C]⟩ (addf v (broadcastTo ⟨2, ![R, C]⟩ m hb)) 0xFF800000#32 h (.inl rfl) rfl) h2) (ix2 0 j) ≤ z
      ↔ row (ix2 0 j) ≤ z ∧ ∀ r, M r → v (ix2 r j) ≤ z := by
  have e1 : shapeCast ⟨2, ![1, C]⟩ row h1 (ix2 0 j) = row (ix2 0 j) :=
    shapeCast_apply (s := ⟨2, ![1, C]⟩) (t := ⟨2, ![1, C]⟩) row h1 (ix2 0 j) (ix2 0 j) rfl
  have e2 : ∀ y : FVec Ideal ⟨1, ![C]⟩ .f32, shapeCast ⟨2, ![1, C]⟩ y h2 (ix2 0 j) = y (ix1 j) := fun y =>
    shapeCast_apply (s := ⟨1, ![C]⟩) (t := ⟨2, ![1, C]⟩) y h2 (ix2 0 j) (ix1 j) (by
      rw [Shape.rowMajor_val_one, Shape.rowMajor_val_two]
      show j.val = 0 * C + j.val
      omega)
  show max _ _ ≤ z ↔ _
  rw [max_le_iff, e1, e2, rows_le]
  refine and_congr Iff.rfl (forall_congr' fun r => ?_)
  have e3 : broadcastTo ⟨2, ![R, C]⟩ m hb (ix2 r j) = m (ix2 r 0) := by
    simp only [broadcastTo]
    refine congrArg m (funext fun a => Fin.ext ?_)
    match a with
    | ⟨0, _⟩ =>
      dsimp only
      split
      · have e : R = 1 := by assumption
        have := r.isLt
        show 0 = r.val
        omega
      · rfl
    | ⟨1, _⟩ =>
      dsimp only
      split
      · rfl
      · exact absurd rfl (by assumption)
  show v (ix2 r j) + broadcastTo ⟨2, ![R, C]⟩ m hb (ix2 r j) ≤ z ↔ _
  rw [e3, hm, add_mk_le]

end Cert.Proof.KI
-- ==== Proof.KI.Net.lean ====
/- The two-layer network, row by row: what the kernel computes of a block's rows and of a chunk's. -/
module

public import proofs.«01_k».proof.Proof.KI.Max

@[expose] public section

set_option maxRecDepth 16384

noncomputable section

namespace Cert.Proof.KI

open Cert.KernelIdeal Cert.KernelIdeal.Gen
open Idealize.ShloMosaic

/-- The network's output `j` of one row. -/
def feat (x : Fin 128 → EReal) (w1 : Fin 128 → Fin 128 → EReal) (b1 : Fin 128 → EReal) (w2 : Fin 128 → Fin 256 → EReal) (b2 : Fin 256 → EReal) (j : Fin 256) : EReal :=
  ∑ k, max (∑ i, x i * w1 i k + b1 k) 0 * w2 k j + b2 j

/-- The network's output, the weights as the kernel holds them. -/
abbrev featK (x : Fin 128 → EReal) (w1 : Vec Ideal S128x128 .f32) (b1 : Vec Ideal S1x128 .f32) (w2 : Vec Ideal S128x256 .f32) (b2 : Vec Ideal S1x256 .f32) : Fin 256 → EReal :=
  feat x (fun i k => w1 (ix2 i k)) (fun k => b1 (ix2 0 k)) (fun k j => w2 (ix2 k j)) (fun j => b2 (ix2 0 j))

variable (w1 : Vec Ideal S128x128 .f32) (b1 : Vec Ideal S1x128 .f32) (w2 : Vec Ideal S128x256 .f32) (b2 : Vec Ideal S1x256 .f32)

/-- The network of a chunk, at a row. -/
theorem pay11_apply (x : Vec Ideal S512x128 .f32) (r : Fin 512) (j : Fin 256) :
    k0_pay11 (k0_pay10 x w1 b1) w2 b2 (ix2 r j) = featK (fun i => x (ix2 r i)) w1 b1 w2 b2 j := by
  pointwise [k0_pay10, k0_pay11]
  rfl

/-- The chunks' maxima of the network of a block. -/
theorem pay24_le (x : Vec Ideal S8192x128 .f32) (i : Fin 16) (j : Fin 256) (z : EReal) :
    k0_pay24 x w1 b1 w2 b2 (ix2 i j) ≤ z ↔ ∀ r : Fin 512, featK (fun k => x (ix2 ⟨i.val * 512 + r.val, by omega⟩ k)) w1 b1 w2 b2 j ≤ z := by
  unfold k0_pay24
  dsimp only
  refine (middle_le _ _ _ _ _).trans (forall_congr' fun r => ?_)
  pointwise
  rfl

end Cert.Proof.KI
-- ==== Proof.KI.Mask.lean ====
/- The masks: which rows of a chunk an update counts, and which chunks lie in a segment. -/
module

public import proofs.«01_k».proof.Proof.KI.Net

@[expose] public section

set_option maxRecDepth 16384

noncomputable section

namespace Cert.Proof.KI

open Cert.KernelIdeal Cert.KernelIdeal.Gen
open Idealize.ShloMosaic

/-- A selection between nothing and minus infinity is a mask. -/
theorem select_mk {c : BitVec 1} {p : Prop} [Decidable p] (h : c = 1#1 ↔ p) :
    Scalar.select c (Scalar.ofBits (F := Ideal) .f32 0x00000000#32) (Scalar.ofBits (F := Ideal) .f32 0xFF800000#32) = mk p := by
  have e0 : Scalar.ofBits (F := Ideal) .f32 0x00000000#32 = (0 : EReal) := Ideal.ofBits_zero_f32
  have e1 : Scalar.ofBits (F := Ideal) .f32 0xFF800000#32 = (⊥ : EReal) := ofBits_bot
  rw [e0, e1]
  unfold Scalar.select mk
  by_cases hp : p
  · rw [if_pos hp]; exact if_pos (h.2 hp)
  · rw [if_neg hp]; exact if_neg fun hc => hp (h.1 hc)

/-- The signed value of a difference of small words. -/
theorem toInt_sub {a b : ℕ} (ha : a < 2 ^ 30) (hb : b < 2 ^ 30) : (Scalar.subi (BitVec.ofNat 32 a) (BitVec.ofNat 32 b)).toInt = (a : ℤ) - b := by
  show (BitVec.ofNat 32 a - BitVec.ofNat 32 b).toInt = _
  rw [BitVec.toInt_sub, BitVec.toInt_ofNat', BitVec.toInt_ofNat', Int.bmod_eq_of_le (n := (a : ℤ)) (by omega) (by omega), Int.bmod_eq_of_le (n := (b : ℤ)) (by omega) (by omega),
    Int.bmod_eq_of_le (by omega) (by omega)]

/-- A small number is the same as a signed word. -/
theorem toInt_ofNat_small {a : ℕ} (ha : a < 2 ^ 30) : (BitVec.ofNat 32 a).toInt = (a : ℤ) := by
  rw [BitVec.toInt_ofNat', Int.bmod_eq_of_le (by omega) (by omega)]

/-- Row `r` of the chunk at `c` is at or after row `a` and before row `b`: as the kernel compares the words. -/
theorem between {a b c r : ℕ} (ha : a < 2 ^ 30) (hb : b < 2 ^ 30) (hc : c < 2 ^ 30) (hr : r < 2 ^ 30) :
    IntOp.andi (IntOp.cmpi .sge (BitVec.ofNat 32 r) (Scalar.subi (BitVec.ofNat 32 a) (BitVec.ofNat 32 c)))
      (IntOp.cmpi .slt (BitVec.ofNat 32 r) (Scalar.subi (BitVec.ofNat 32 b) (BitVec.ofNat 32 c))) = 1#1 ↔ a ≤ c + r ∧ c + r < b := by
  rw [IntOp.andi_eq_one, IntOp.cmpi_sge, IntOp.cmpi_slt, toInt_sub ha hc, toInt_sub hb hc, toInt_ofNat_small hr]
  omega

/-- The row numbers of a chunk, read. -/
theorem rows512_apply (r : Fin 512) : rows512 (ix2 r 0) = BitVec.ofNat 32 r.val := by
  simp only [pointwise]
  show BitVec.ofNat 32 (0 * 512 + r.val) = _
  rw [Nat.zero_mul, Nat.zero_add]

/-- The segment numbers of the static mask's columns, read. -/
theorem cols16_apply (i n : Fin 16) : iota .tc S16x16 32 [1] iota_S16x16_d1_w32 (ix2 i n) = BitVec.ofNat 32 n.val := by
  simp only [pointwise]
  show BitVec.ofNat 32 (0 * 16 + n.val) = _
  rw [Nat.zero_mul, Nat.zero_add]

section
variable {x3 : Vec Ideal S1x16x512 .i32} {q : ℕ → ℕ} (T : Table (k0_pay23 (F := Ideal) x3) q)
include T

/-- The mask of a trip's earlier row: the chunk's rows of the segment before the boundary's. -/
theorem pay13_apply {s c ck : ℕ} (hs : s + 1 < 2 ^ 30) (hc : c < 2 ^ 30) (hck : ck < 2 ^ 30) (r : Fin 512) :
    k0_pay13 (F := Ideal) (k0_pay23 (F := Ideal) x3) rows512 (BitVec.ofNat 32 (s + 1)) (BitVec.ofNat 32 c) (BitVec.ofNat 32 ck) (ix2 r 0)
      = mk (below q s ≤ ck + r.val ∧ ck + r.val < c) := by
  have e : Scalar.subi (BitVec.ofNat 32 (s + 1)) 1#32 = BitVec.ofNat 32 s := by
    show BitVec.ofNat 32 (s + 1) - 1#32 = _
    rw [BitVec.ofNat_add]; exact BitVec.add_sub_cancel _ _
  have hb := below_le q s
  have hcnt := countW_eq T (s := s) (by omega)
  refine select_mk ?_
  show IntOp.andi (IntOp.cmpi .sge (rows512 (ix2 r 0)) (Scalar.subi (countW (k0_pay23 (F := Ideal) x3) (Scalar.subi (BitVec.ofNat 32 (s + 1)) 1#32)) (BitVec.ofNat 32 ck)))
    (IntOp.cmpi .slt (rows512 (ix2 r 0)) (Scalar.subi (BitVec.ofNat 32 c) (BitVec.ofNat 32 ck))) = 1#1 ↔ _
  rw [rows512_apply, e, hcnt]
  exact between (by omega) hc hck (by omega)

omit T in
/-- The mask of a trip's later row: the chunk's rows from the boundary up to the next. -/
theorem pay2_apply {a b ck : ℕ} (ha : a < 2 ^ 30) (hb : b < 2 ^ 30) (hck : ck < 2 ^ 30) (r : Fin 512) :
    k0_pay2 (F := Ideal) rows512 (BitVec.ofNat 32 a) (BitVec.ofNat 32 ck) (BitVec.ofNat 32 b) (ix2 r 0)
      = mk (a ≤ ck + r.val ∧ ck + r.val < b) := by
  refine select_mk ?_
  show IntOp.andi (IntOp.cmpi .sge (rows512 (ix2 r 0)) (Scalar.subi (BitVec.ofNat 32 a) (BitVec.ofNat 32 ck)))
    (IntOp.cmpi .slt (rows512 (ix2 r 0)) (Scalar.subi (BitVec.ofNat 32 b) (BitVec.ofNat 32 ck))) = 1#1 ↔ _
  rw [rows512_apply]
  exact between ha hb hck (by omega)

/-- The static mask's column for segment `s`: the chunks whose first row and last are of segment `s`. -/
theorem mask_apply (n : ℕ) (hn : n < 16) (i : Fin 16) :
    extractStridedSlice S16x1 ![0, n] (mask (F := Ideal) x3) (slicesN n hn) (ix2 i 0) = mk (q (512 * i.val) = n ∧ q (512 * i.val + 511) = n) := by
  have e : extractStridedSlice S16x1 ![0, n] (mask (F := Ideal) x3) (slicesN n hn) (ix2 i 0) = mask (F := Ideal) x3 (ix2 i ⟨n, hn⟩) :=
    extractStridedSlice_apply ![0, n] _ _ (ix2 i 0) (ix2 i ⟨n, hn⟩) fun a => by
      match a with
      | ⟨0, _⟩ => exact (Nat.zero_add i.val).symm
      | ⟨1, _⟩ => rfl
  rw [e]
  refine select_mk ?_
  have h0 : broadcastTo S16x16 (extractStridedSlice S16x1 ![0, 0] (k0_pay23 (F := Ideal) x3) slices_S16x512_o0_0_S16x1) broadcasts_S16x1_S16x16 (ix2 i ⟨n, hn⟩)
      = BitVec.ofNat 32 (q (512 * i.val)) := by
    simp only [pointwise]
    refine (T.holds _).trans (congrArg (fun k => BitVec.ofNat 32 (q k)) ?_)
    show 512 * (0 + i.val) + 0 = _
    omega
  have h1 : broadcastTo S16x16 (extractStridedSlice S16x1 ![0, 511] (k0_pay23 (F := Ideal) x3) slices_S16x512_o0_511_S16x1) broadcasts_S16x1_S16x16 (ix2 i ⟨n, hn⟩)
      = BitVec.ofNat 32 (q (512 * i.val + 511)) := by
    simp only [pointwise]
    refine (T.holds _).trans (congrArg (fun k => BitVec.ofNat 32 (q k)) ?_)
    show 512 * (0 + i.val) + 511 = _
    omega
  have h2 : k0_pay26 (F := Ideal) x3 (ix2 i ⟨n, hn⟩) = IntOp.cmpi .eq (BitVec.ofNat 32 (q (512 * i.val))) (BitVec.ofNat 32 n) := by
    rw [← h0, ← cols16_apply i ⟨n, hn⟩]; rfl
  have h3 : k0_pay27 (F := Ideal) x3 (ix2 i ⟨n, hn⟩) = IntOp.cmpi .eq (BitVec.ofNat 32 (q (512 * i.val + 511))) (BitVec.ofNat 32 n) := by
    rw [← h1, ← cols16_apply i ⟨n, hn⟩]; rfl
  show IntOp.andi (k0_pay26 (F := Ideal) x3 (ix2 i ⟨n, hn⟩)) (k0_pay27 (F := Ideal) x3 (ix2 i ⟨n, hn⟩)) = 1#1 ↔ _
  rw [h2, h3, IntOp.andi_eq_one]
  have key : ∀ m, IntOp.cmpi .eq (BitVec.ofNat 32 (q m)) (BitVec.ofNat 32 n) = 1#1 ↔ q m = n := fun m => by
    have := T.lt m
    show BitVec.ofBool (BitVec.ofNat 32 (q m) == BitVec.ofNat 32 n) = 1#1 ↔ _
    rw [beq_eq_decide]
    have : BitVec.ofNat 32 (q m) = BitVec.ofNat 32 n ↔ q m = n := by
      rw [← BitVec.toNat_inj, BitVec.toNat_ofNat, BitVec.toNat_ofNat, Nat.mod_eq_of_lt (by omega), Nat.mod_eq_of_lt (by omega)]
    by_cases h : q m = n <;> simp [this, h]
  rw [key, key]

end

end Cert.Proof.KI
-- ==== Proof.KI.Cover.lean ====
/- One block: by how much each of its updates raises the maxima, and that together they count every row once or more. -/
module

public import proofs.«01_k».proof.Proof.KI.Mask

@[expose] public section

set_option maxRecDepth 16384

noncomputable section

namespace Cert.Proof.KI

open Cert.KernelIdeal Cert.KernelIdeal.Gen
open Idealize.ShloMosaic

/-! ## A row raised -/

/-- A row of the maxima put back raised: that row is raised, the others are as they were. -/
theorem put_le {C : ℕ} (Y : Vec Ideal ⟨2, ![16, C]⟩ .f32) (off : Fin 2 → ℕ) (n : ℕ) (ho : off = ![n, 0])
    (inb : ∀ a, off a + (![1, C] : Fin 2 → ℕ) a ≤ (⟨2, ![16, C]⟩ : Shape).size a) (row : Vec Ideal ⟨2, ![1, C]⟩ .f32) (B : Prop) (j : Fin C) (z : EReal)
    (hrow : row (ix2 0 j) ≤ z ↔ VecWindow.window (s := ⟨2, ![16, C]⟩) Y off ![1, C] inb (ix2 0 j) ≤ z ∧ B) (s : Fin 16) :
    VecWindow.put (s := ⟨2, ![16, C]⟩) Y off ![1, C] row (ix2 s j) ≤ z ↔ Y (ix2 s j) ≤ z ∧ (s.val = n → B) := by
  subst ho
  unfold VecWindow.put
  by_cases hs : s.val = n
  · have h : ∀ a, (![n, 0] : Fin 2 → ℕ) a ≤ ((ix2 s j : (⟨2, ![16, C]⟩ : Shape).Idx) a).val ∧ ((ix2 s j : (⟨2, ![16, C]⟩ : Shape).Idx) a).val < (![n, 0] : Fin 2 → ℕ) a + (![1, C] : Fin 2 → ℕ) a := fun a => by
      match a with
      | ⟨0, _⟩ => exact ⟨hs.symm.le, show s.val < n + 1 by omega⟩
      | ⟨1, _⟩ => exact ⟨Nat.zero_le _, show j.val < 0 + C by omega⟩
    rw [dif_pos h]
    have e1 : Rect.unitLocal (s := ⟨2, ![16, C]⟩) (off := ![n, 0]) (size := ![1, C]) (ix2 s j) h = (ix2 0 j : (⟨2, ![1, C]⟩ : Shape).Idx) := funext fun a => Fin.ext (by
      match a with
      | ⟨0, _⟩ => show s.val - n = 0; omega
      | ⟨1, _⟩ => rfl)
    have e2 : VecWindow.window (s := ⟨2, ![16, C]⟩) Y ![n, 0] ![1, C] inb (ix2 0 j) = Y (ix2 s j) := congrArg Y (funext fun a => Fin.ext (by
      match a with
      | ⟨0, _⟩ => show n + 1 * 0 = s.val; omega
      | ⟨1, _⟩ => show 0 + 1 * j.val = j.val; omega))
    rw [e1, ← e2]
    exact hrow.trans (and_congr Iff.rfl ⟨fun b _ => b, fun b => b hs⟩)
  · rw [dif_neg (fun h => hs (by have h0 := h 0; have h1 : n ≤ s.val := h0.1; have h2 : s.val < n + 1 := h0.2; omega))]
    exact ⟨fun h => ⟨h, fun e => absurd e hs⟩, fun h => h.1⟩

/-- A block's row number, taken below the block's size. -/
abbrev at8 (n : ℕ) : Fin 8192 := ⟨n % 8192, Nat.mod_lt _ (by omega)⟩

/-- A chunk's window of an array of the block's rows. -/
theorem window_row {C : ℕ} (x : Vec Ideal ⟨2, ![8192, C]⟩ .f32) (off : Fin 2 → ℕ) (c : ℕ) (ho : off = ![c, 0])
    (inb : ∀ a, off a + (![512, C] : Fin 2 → ℕ) a ≤ (⟨2, ![8192, C]⟩ : Shape).size a) (r : Fin 512) (j : Fin C) :
    VecWindow.window (s := ⟨2, ![8192, C]⟩) x off ![512, C] inb (ix2 r j) = x (ix2 (at8 (c + r.val)) j) := by
  subst ho
  have h0 : c + 512 ≤ 8192 := inb 0
  exact congrArg x (funext fun a => Fin.ext (by
    match a with
    | ⟨0, _⟩ => show c + 1 * r.val = (c + r.val) % 8192; omega
    | ⟨1, _⟩ => show 0 + 1 * j.val = j.val; omega))

/-! ## The rows' values -/

/-- The features of the block's row `n`. -/
def VX (x1 : Vec Ideal S8192x128 .f32) (w1 : Vec Ideal S128x128 .f32) (b1 : Vec Ideal S1x128 .f32) (w2 : Vec Ideal S128x256 .f32) (b2 : Vec Ideal S1x256 .f32)
    (n : ℕ) (j : Fin 256) : EReal := featK (fun i => x1 (ix2 (at8 n) i)) w1 b1 w2 b2 j

/-- The position of the block's row `n`. -/
def VP (x2 : Vec Ideal S8192x3 .f32) (n : ℕ) (j : Fin 3) : EReal := x2 (ix2 (at8 n) j)

/-- What a static update of segment `s` counts: the rows of the chunks that lie in the segment. -/
def Static (q : ℕ → ℕ) (s : ℕ) (G : ℕ → Prop) : Prop :=
  ∀ i : Fin 16, q (512 * i.val) = s ∧ q (512 * i.val + 511) = s → ∀ r : Fin 512, G (512 * i.val + r.val)

/-- What trip `k` of the boundary loop counts towards segment `s`, `a` the block's first segment: in the chunk that holds
    the boundary, the rows before it for the segment it ends, those from it on for the segment it begins. -/
def Trip (q : ℕ → ℕ) (a k s : ℕ) (G : ℕ → Prop) : Prop :=
  (s = a + k → ∀ r : Fin 512, below q (a + k) ≤ below q (a + k + 1) / 512 * 512 + r.val ∧ below q (a + k + 1) / 512 * 512 + r.val < below q (a + k + 1) →
      G (below q (a + k + 1) / 512 * 512 + r.val))
    ∧ (s = a + k + 1 → ∀ r : Fin 512, below q (a + k + 1) ≤ below q (a + k + 1) / 512 * 512 + r.val ∧ below q (a + k + 1) / 512 * 512 + r.val < below q (a + k + 2) →
      G (below q (a + k + 1) / 512 * 512 + r.val))

/-- In a sorted block, the static updates and the trips together count a segment's rows, all of them and no other. -/
theorem cover {q : ℕ → ℕ} (hq : Monotone q) (s : ℕ) (G : ℕ → Prop) :
    (Static q s G ∧ ∀ k, k < q 8191 - q 0 → Trip q (q 0) k s G) ↔ ∀ n, n < 8192 → q n = s → G n := by
  constructor
  · rintro ⟨hS, hT⟩ n hn hs
    have hi : n / 512 < 16 := by omega
    have hr : n % 512 < 512 := by omega
    have hlo : q (512 * (n / 512)) ≤ s := hs ▸ hq (by omega)
    have hhi : s ≤ q (512 * (n / 512) + 511) := hs ▸ hq (by omega)
    have h0 : q 0 ≤ q (512 * (n / 512)) := hq (by omega)
    have h1 : q (512 * (n / 512) + 511) ≤ q 8191 := hq (by omega)
    have e : 512 * (n / 512) + n % 512 = n := by omega
    rcases Nat.lt_or_ge (q (512 * (n / 512))) s with h | h
    · -- the segment begins in the row's chunk
      have hb := (lt_below_iff hq s (n := 512 * (n / 512)) (by omega)).2 h
      have hb2 : below q s ≤ n := by
        by_contra hc
        have := (lt_below_iff hq s hn).1 (by omega)
        omega
      have hn2 := (lt_below_iff hq (s + 1) hn).2 (by omega)
      have ek : q 0 + (s - q 0 - 1) + 1 = s := by omega
      have ek2 : q 0 + (s - q 0 - 1) + 2 = s + 1 := by omega
      have := (hT (s - q 0 - 1) (by omega)).2 ek.symm ⟨n % 512, hr⟩
      rw [ek, ek2] at this
      have ec : below q s / 512 * 512 + n % 512 = n := by omega
      simp only [ec] at this
      exact this ⟨hb2, hn2⟩
    · rcases Nat.lt_or_ge s (q (512 * (n / 512) + 511)) with h' | h'
      · -- the segment ends in the row's chunk
        have hb := (lt_below_iff hq (s + 1) hn).2 (by omega)
        have hb2 : below q (s + 1) ≤ 512 * (n / 512) + 511 := by
          by_contra hc
          have := (lt_below_iff hq (s + 1) (n := 512 * (n / 512) + 511) (by omega)).1 (by omega)
          omega
        have hb3 : below q s ≤ n := by
          by_contra hc
          have := (lt_below_iff hq s hn).1 (by omega)
          omega
        have ek : q 0 + (s - q 0) = s := by omega
        have := (hT (s - q 0) (by omega)).1 ek.symm ⟨n % 512, hr⟩
        rw [ek] at this
        have ec : below q (s + 1) / 512 * 512 + n % 512 = n := by omega
        simp only [ec] at this
        exact this ⟨hb3, hb⟩
      · -- the chunk lies in the segment
        have := hS ⟨n / 512, hi⟩ ⟨by show q (512 * (n / 512)) = s; omega, by show q (512 * (n / 512) + 511) = s; omega⟩ ⟨n % 512, hr⟩
        simp only [e] at this
        exact this
  · intro h
    have seg_eq : ∀ t m, m < 8192 → below q t ≤ m → m < below q (t + 1) → q m = t := fun t m hm h1 h2 => by
      have h3 := (lt_below_iff hq (t + 1) hm).1 h2
      have h4 : ¬ q m < t := fun hc => by have := (lt_below_iff hq t hm).2 hc; omega
      omega
    refine ⟨fun i hi r => h _ (by omega) ?_, fun k hk => ⟨fun hs r hr => ?_, fun hs r hr => ?_⟩⟩
    · have h1 : q (512 * i.val) ≤ q (512 * i.val + r.val) := hq (by omega)
      have h2 : q (512 * i.val + r.val) ≤ q (512 * i.val + 511) := hq (by omega)
      omega
    · have hb := below_le q (q 0 + k + 1)
      exact h _ (by omega) ((seg_eq _ _ (by omega) hr.1 hr.2).trans hs.symm)
    · have hb := below_le q (q 0 + k + 2)
      exact h _ (by omega) ((seg_eq _ _ (by omega) hr.1 hr.2).trans hs.symm)

end Cert.Proof.KI
-- ==== Proof.KI.Block.lean ====
/- One block: the maxima it leaves. -/
module

public import proofs.«01_k».proof.Proof.KI.Cover

@[expose] public section

set_option maxRecDepth 16384

noncomputable section

namespace Cert.Proof.KI

open Cert.KernelIdeal Cert.KernelIdeal.Gen
open Idealize.ShloMosaic

/-- The chunk's hidden layer and features are the block rows'. -/
theorem hid_apply (x1 : Vec Ideal S8192x128 .f32) (w1 : Vec Ideal S128x128 .f32) (b1 : Vec Ideal S1x128 .f32) (w2 : Vec Ideal S128x256 .f32) (b2 : Vec Ideal S1x256 .f32)
    {c : ℕ} (hc : c < 2 ^ 30) (h2 : k0_chk2 (BitVec.ofNat 32 c)) (r : Fin 512) (j : Fin 256) :
    k0_pay11 (hid x1 w1 b1 (BitVec.ofNat 32 c) h2) w2 b2 (ix2 r j) = VX x1 w1 b1 w2 b2 (c / 512 * 512 + r.val) j := by
  rw [pay11_apply, VX]
  refine congrArg (fun x => featK x w1 b1 w2 b2 j) (funext fun i => ?_)
  exact window_row x1 _ (c / 512 * 512) (congrArg (fun n => ![n, 0]) (chunk_toNat (w := c) (by omega))) _ r i

/-- The chunk's positions are the block rows'. -/
theorem posn_apply (x2 : Vec Ideal S8192x3 .f32) {c : ℕ} (hc : c < 2 ^ 30) (h2 : k0_chk2 (BitVec.ofNat 32 c)) (r : Fin 512) (j : Fin 3) :
    posn x2 (BitVec.ofNat 32 c) h2 (ix2 r j) = VP x2 (c / 512 * 512 + r.val) j :=
  window_row x2 _ (c / 512 * 512) (congrArg (fun n => ![n, 0]) (chunk_toNat (w := c) (by omega))) _ r j

/-- The chunks' features: a chunk's maximum is over its rows. -/
theorem chunkX_le (x1 : Vec Ideal S8192x128 .f32) (w1 : Vec Ideal S128x128 .f32) (b1 : Vec Ideal S1x128 .f32) (w2 : Vec Ideal S128x256 .f32) (b2 : Vec Ideal S1x256 .f32)
    (i : Fin 16) (j : Fin 256) (z : EReal) :
    k0_pay24 x1 w1 b1 w2 b2 (ix2 i j) ≤ z ↔ ∀ r : Fin 512, VX x1 w1 b1 w2 b2 (512 * i.val + r.val) j ≤ z := by
  refine (pay24_le w1 b1 w2 b2 x1 i j z).trans (forall_congr' fun r => ?_)
  have e : (⟨i.val * 512 + r.val, by omega⟩ : Fin 8192) = at8 (512 * i.val + r.val) := Fin.ext (by show i.val * 512 + r.val = (512 * i.val + r.val) % 8192; omega)
  rw [e]
  exact Iff.rfl

/-- The chunks' positions, as `chunkX_le`. -/
theorem chunkP_le (x2 : Vec Ideal S8192x3 .f32) (i : Fin 16) (j : Fin 3) (z : EReal) :
    k0_pay25 x2 (ix2 i j) ≤ z ↔ ∀ r : Fin 512, VP x2 (512 * i.val + r.val) j ≤ z := by
  unfold k0_pay25
  refine (middle_le _ _ _ _ _).trans (forall_congr' fun r => ?_)
  have e : shapeCast S16x512x3 x2 shapeCasts_S8192x3_S16x512x3 (ix3 i r j) = VP x2 (512 * i.val + r.val) j :=
    shapeCast_apply (s := S8192x3) (t := S16x512x3) x2 _ (ix3 i r j) (ix2 (at8 (512 * i.val + r.val)) j) (by
      rw [Shape.rowMajor_val_two, Shape.rowMajor_val_three]
      show (512 * i.val + r.val) % 8192 * 3 + j.val = (i.val * 512 + r.val) * 3 + j.val
      omega)
  rw [e]

/-- One more segment's static update. -/
theorem count_succ {s n : ℕ} {A : Prop} {B : ℕ → Prop} : (A ∧ (s < n → B s)) ∧ (s = n → B n) ↔ A ∧ (s < n + 1 → B s) := by
  constructor
  · rintro ⟨⟨h1, h2⟩, h3⟩
    refine ⟨h1, fun h => ?_⟩
    rcases Nat.lt_succ_iff_lt_or_eq.1 h with h | h
    · exact h2 h
    · rw [h]; exact h3 h
  · rintro ⟨h1, h2⟩
    exact ⟨⟨h1, fun h => h2 (by omega)⟩, fun h => h ▸ h2 (by omega)⟩

section
variable {x3 : Vec Ideal S1x16x512 .i32} {q : ℕ → ℕ} (T : Table (k0_pay23 (F := Ideal) x3) q)
  (x1 : Vec Ideal S8192x128 .f32) (x2 : Vec Ideal S8192x3 .f32) (w1 : Vec Ideal S128x128 .f32) (b1 : Vec Ideal S1x128 .f32) (w2 : Vec Ideal S128x256 .f32) (b2 : Vec Ideal S1x256 .f32)
include T

/-! ## The static updates -/

/-- A row of the maxima raised by the chunks that lie in its segment. -/
theorem static_row {C : ℕ} (V : ℕ → Fin C → EReal) (v : FVec Ideal ⟨2, ![16, C]⟩ .f32) (hv : ∀ i j z, v (ix2 i j) ≤ z ↔ ∀ r : Fin 512, V (512 * i.val + r.val) j ≤ z)
    (row : Vec Ideal ⟨2, ![1, C]⟩ .f32) (hb : S16x1.Broadcasts ⟨2, ![16, C]⟩) (h : (⟨2, ![16, C]⟩ : Shape).Reduces [0] ⟨1, ![C]⟩)
    (h1 : (⟨2, ![1, C]⟩ : Shape).ShapeCasts ⟨2, ![1, C]⟩) (h2 : (⟨1, ![C]⟩ : Shape).ShapeCasts ⟨2, ![1, C]⟩) (n : ℕ) (hn : n < 16) (j : Fin C) (z : EReal) :
    maximumf (shapeCast ⟨2, ![1, C]⟩ row h1)
      (shapeCast ⟨2, ![1, C]⟩ (multiReduction .maximumf [0] ⟨1, ![C]⟩ (addf v (broadcastTo ⟨2, ![16, C]⟩ (extractStridedSlice S16x1 ![0, n] (mask (F := Ideal) x3) (slicesN n hn)) hb))
        0xFF800000#32 h (.inl rfl) rfl) h2) (ix2 0 j) ≤ z
      ↔ row (ix2 0 j) ≤ z ∧ Static q n fun m => V m j ≤ z := by
  refine (raised_le _ _ _ _ _ _ _ (fun i : Fin 16 => q (512 * i.val) = n ∧ q (512 * i.val + 511) = n) (mask_apply T n hn) j z).trans ?_
  exact and_congr Iff.rfl (forall_congr' fun i => imp_congr Iff.rfl (hv i j z))

/-- The feature maxima after the first `n` segments' whole chunks. -/
theorem statX_le (X : Vec Ideal S16x256 .f32) (s : Fin 16) (j : Fin 256) (z : EReal) : ∀ n (hn : n ≤ 16),
    statX (k0_pay24 x1 w1 b1 w2 b2) (mask (F := Ideal) x3) X n hn (ix2 s j) ≤ z
      ↔ X (ix2 s j) ≤ z ∧ (s.val < n → Static q s.val fun m => VX x1 w1 b1 w2 b2 m j ≤ z)
  | 0, _ => by simp [statX]
  | n + 1, hn => by
    rw [statX, ← row_of_statX (k0_pay24 x1 w1 b1 w2 b2) (mask (F := Ideal) x3) X n hn n le_rfl]
    refine (put_le _ _ n rfl (inbX n hn) _ _ j z (static_row T _ _ (chunkX_le x1 w1 b1 w2 b2) _ _ _ _ _ n hn j z) s).trans ?_
    rw [statX_le X s j z n]
    exact count_succ (B := fun t => Static q t fun m => VX x1 w1 b1 w2 b2 m j ≤ z)

/-- The position maxima after the first `n` segments' whole chunks. -/
theorem statP_le (P : Vec Ideal S16x3 .f32) (s : Fin 16) (j : Fin 3) (z : EReal) : ∀ n (hn : n ≤ 16),
    statP (k0_pay25 x2) (mask (F := Ideal) x3) P n hn (ix2 s j) ≤ z ↔ P (ix2 s j) ≤ z ∧ (s.val < n → Static q s.val fun m => VP x2 m j ≤ z)
  | 0, _ => by simp [statP]
  | n + 1, hn => by
    rw [statP, ← row_of_statP (k0_pay25 x2) (mask (F := Ideal) x3) P n hn n le_rfl]
    refine (put_le _ _ n rfl (inbP n hn) _ _ j z (static_row T _ _ (chunkP_le x2) _ _ _ _ _ n hn j z) s).trans ?_
    rw [statP_le P s j z n]
    exact count_succ (B := fun t => Static q t fun m => VP x2 m j ≤ z)

/-! ## The boundary loop -/

/-- A trip's two rows, one after the other. -/
theorem trip_rows {C : ℕ} (V : ℕ → Fin C → EReal) (Y : Vec Ideal ⟨2, ![16, C]⟩ .f32) (off off' : Fin 2 → ℕ) (a k : ℕ) (ho : off = ![a + k, 0]) (ho' : off' = ![a + k + 1, 0])
    (inb : ∀ i, off i + (![1, C] : Fin 2 → ℕ) i ≤ (⟨2, ![16, C]⟩ : Shape).size i) (inb' : ∀ i, off' i + (![1, C] : Fin 2 → ℕ) i ≤ (⟨2, ![16, C]⟩ : Shape).size i)
    (early late : Vec Ideal ⟨2, ![1, C]⟩ .f32 → Vec Ideal ⟨2, ![1, C]⟩ .f32) (j : Fin C) (z : EReal)
    (he : ∀ row, early row (ix2 0 j) ≤ z ↔ row (ix2 0 j) ≤ z ∧ ∀ r : Fin 512, below q (a + k) ≤ below q (a + k + 1) / 512 * 512 + r.val
      ∧ below q (a + k + 1) / 512 * 512 + r.val < below q (a + k + 1) → V (below q (a + k + 1) / 512 * 512 + r.val) j ≤ z)
    (hl : ∀ row, late row (ix2 0 j) ≤ z ↔ row (ix2 0 j) ≤ z ∧ ∀ r : Fin 512, below q (a + k + 1) ≤ below q (a + k + 1) / 512 * 512 + r.val
      ∧ below q (a + k + 1) / 512 * 512 + r.val < below q (a + k + 2) → V (below q (a + k + 1) / 512 * 512 + r.val) j ≤ z) (s : Fin 16) :
    (let Y' := VecWindow.put (s := ⟨2, ![16, C]⟩) Y off ![1, C] (early (VecWindow.window (s := ⟨2, ![16, C]⟩) Y off ![1, C] inb))
     VecWindow.put (s := ⟨2, ![16, C]⟩) Y' off' ![1, C] (late (VecWindow.window (s := ⟨2, ![16, C]⟩) Y' off' ![1, C] inb'))) (ix2 s j) ≤ z
      ↔ Y (ix2 s j) ≤ z ∧ Trip q a k s.val fun m => V m j ≤ z := by
  refine (put_le _ off' (a + k + 1) ho' inb' _ _ j z (hl _) s).trans ?_
  rw [put_le Y off (a + k) ho inb _ _ j z (he _) s, and_assoc]
  exact Iff.rfl

variable {a b : ℕ} (ha : a < 16) (hb : b < 16) (k : Fin (k0_t1_loop (BitVec.ofNat 32 a) (BitVec.ofNat 32 b)).trips) (hk : a + k.val + 1 < 16)
include ha hb hk

omit T hb in
/-- A trip's segment, as a number. -/
theorem seg_eq : seg (BitVec.ofNat 32 a) (BitVec.ofNat 32 b) k = BitVec.ofNat 32 (a + k.val + 1) := by
  rw [seg_of, Nat.add_right_comm]

omit hb in
/-- The rows below the segment, counted. -/
theorem cut_eq : cut (k0_pay23 (F := Ideal) x3) (BitVec.ofNat 32 a) (BitVec.ofNat 32 b) k = BitVec.ofNat 32 (below q (a + k.val + 1)) := by
  rw [cut_of T a b k (by omega), Nat.add_right_comm]

omit hb in
/-- The rows up to the segment's end, counted. -/
theorem next_eq : next (k0_pay23 (F := Ideal) x3) (BitVec.ofNat 32 a) (BitVec.ofNat 32 b) k = BitVec.ofNat 32 (below q (a + k.val + 2)) := by
  have e : Scalar.addi (seg (BitVec.ofNat 32 a) (BitVec.ofNat 32 b) k) 1#32 = BitVec.ofNat 32 (a + k.val + 2) := by
    rw [seg_eq ha k hk]; show BitVec.ofNat 32 (a + k.val + 1) + 1#32 = _
    rw [BitVec.ofNat_add (a + k.val + 1) 1]
  have := countW_eq T (s := a + k.val + 2) (by omega)
  rw [← e] at this
  exact this

omit T hb in
/-- The row that a trip stores to first. -/
theorem off_early : ![(Scalar.subi (seg (BitVec.ofNat 32 a) (BitVec.ofNat 32 b) k) 1#32).toNat, 0] = ![a + k.val, 0] := by
  have e : Scalar.subi (seg (BitVec.ofNat 32 a) (BitVec.ofNat 32 b) k) 1#32 = BitVec.ofNat 32 (a + k.val) := by
    rw [seg_eq ha k hk]; show BitVec.ofNat 32 (a + k.val + 1) - 1#32 = _
    rw [BitVec.ofNat_add]; exact BitVec.add_sub_cancel _ _
  rw [e, BitVec.toNat_ofNat, Nat.mod_eq_of_lt (by omega)]

omit T hb in
/-- The row that a trip stores to second. -/
theorem off_late : ![(seg (BitVec.ofNat 32 a) (BitVec.ofNat 32 b) k).toNat, 0] = ![a + k.val + 1, 0] := by
  rw [seg_eq ha k hk, BitVec.toNat_ofNat, Nat.mod_eq_of_lt (by omega)]

omit ha hb hk k in
/-- The earlier row of a trip, of features or positions `v` of the chunk. -/
theorem early_row {C : ℕ} (V : ℕ → Fin C → EReal) (v : FVec Ideal ⟨2, ![512, C]⟩ .f32) {s c : ℕ} (hs : s + 1 < 17) (hc : c ≤ 8192) (hv : ∀ r j, v (ix2 r j) = V (c / 512 * 512 + r.val) j)
    (row : Vec Ideal ⟨2, ![1, C]⟩ .f32) (hb : S512x1.Broadcasts ⟨2, ![512, C]⟩) (h : (⟨2, ![512, C]⟩ : Shape).Reduces [0] ⟨1, ![C]⟩)
    (h1 : (⟨2, ![1, C]⟩ : Shape).ShapeCasts ⟨2, ![1, C]⟩) (h2 : (⟨1, ![C]⟩ : Shape).ShapeCasts ⟨2, ![1, C]⟩) (j : Fin C) (z : EReal) :
    maximumf (shapeCast ⟨2, ![1, C]⟩ row h1)
      (shapeCast ⟨2, ![1, C]⟩ (multiReduction .maximumf [0] ⟨1, ![C]⟩ (addf v (broadcastTo ⟨2, ![512, C]⟩
        (k0_pay13 (F := Ideal) (k0_pay23 (F := Ideal) x3) rows512 (BitVec.ofNat 32 (s + 1)) (BitVec.ofNat 32 c) (chunk (BitVec.ofNat 32 c))) hb))
        0xFF800000#32 h (.inl rfl) rfl) h2) (ix2 0 j) ≤ z
      ↔ row (ix2 0 j) ≤ z ∧ ∀ r : Fin 512, below q s ≤ c / 512 * 512 + r.val ∧ c / 512 * 512 + r.val < c → V (c / 512 * 512 + r.val) j ≤ z := by
  rw [chunk_eq (by omega)]
  refine (raised_le _ _ _ _ _ _ _ (fun r : Fin 512 => below q s ≤ c / 512 * 512 + r.val ∧ c / 512 * 512 + r.val < c) (pay13_apply T (by omega) (by omega) (by omega)) j z).trans ?_
  simp only [hv]

omit T ha hb hk k in
/-- The later row of a trip. -/
theorem late_row {C : ℕ} (V : ℕ → Fin C → EReal) (v : FVec Ideal ⟨2, ![512, C]⟩ .f32) {c d : ℕ} (hc : c ≤ 8192) (hd : d ≤ 8192) (hv : ∀ r j, v (ix2 r j) = V (c / 512 * 512 + r.val) j)
    (row : Vec Ideal ⟨2, ![1, C]⟩ .f32) (hb : S512x1.Broadcasts ⟨2, ![512, C]⟩) (h : (⟨2, ![512, C]⟩ : Shape).Reduces [0] ⟨1, ![C]⟩)
    (h1 : (⟨2, ![1, C]⟩ : Shape).ShapeCasts ⟨2, ![1, C]⟩) (h2 : (⟨1, ![C]⟩ : Shape).ShapeCasts ⟨2, ![1, C]⟩) (j : Fin C) (z : EReal) :
    maximumf (shapeCast ⟨2, ![1, C]⟩ row h1)
      (shapeCast ⟨2, ![1, C]⟩ (multiReduction .maximumf [0] ⟨1, ![C]⟩ (addf v (broadcastTo ⟨2, ![512, C]⟩
        (k0_pay2 (F := Ideal) rows512 (BitVec.ofNat 32 c) (chunk (BitVec.ofNat 32 c)) (BitVec.ofNat 32 d)) hb))
        0xFF800000#32 h (.inl rfl) rfl) h2) (ix2 0 j) ≤ z
      ↔ row (ix2 0 j) ≤ z ∧ ∀ r : Fin 512, c ≤ c / 512 * 512 + r.val ∧ c / 512 * 512 + r.val < d → V (c / 512 * 512 + r.val) j ≤ z := by
  rw [chunk_eq (by omega)]
  refine (raised_le _ _ _ _ _ _ _ (fun r : Fin 512 => c ≤ c / 512 * 512 + r.val ∧ c / 512 * 512 + r.val < d) (pay2_apply (by omega) (by omega) (by omega)) j z).trans ?_
  simp only [hv]

omit hb in
/-- A trip raises two segments' features by the rows of its chunk that are theirs. -/
theorem tripX_le (h1 : k0_chk1 (BitVec.ofNat 32 a) (BitVec.ofNat 32 b)) (h2) (X : Vec Ideal S16x256 .f32) (s : Fin 16) (j : Fin 256) (z : EReal) :
    tripX (k0_pay23 (F := Ideal) x3) (BitVec.ofNat 32 a) (BitVec.ofNat 32 b) h1 rows512 x1 w1 b1 w2 b2 k h2 X (ix2 s j) ≤ z
      ↔ X (ix2 s j) ≤ z ∧ Trip q a k.val s.val fun m => VX x1 w1 b1 w2 b2 m j ≤ z := by
  unfold tripX
  have ec := cut_eq T ha k hk
  have en := next_eq T ha k hk
  have es := seg_eq ha k hk
  have hc := below_le q (a + k.val + 1)
  have hd := below_le q (a + k.val + 2)
  generalize cut (k0_pay23 (F := Ideal) x3) (BitVec.ofNat 32 a) (BitVec.ofNat 32 b) k = w at ec h2 ⊢
  subst ec
  rw [en, es]
  exact trip_rows T (VX x1 w1 b1 w2 b2) X _ _ a k.val (off_early ha k hk) (off_late ha k hk) _ _
    (fun row => k0_pay14 _ _ _ _ _ _ _ _ row) (fun row => k0_pay3 _ _ _ _ _ row) j z
    (fun row => early_row T _ _ (by omega) hc (fun r j => hid_apply x1 w1 b1 w2 b2 (by omega) h2 r j) row _ _ _ _ j z)
    (fun row => late_row _ _ hc hd (fun r j => hid_apply x1 w1 b1 w2 b2 (by omega) h2 r j) row _ _ _ _ j z) s

omit hb in
/-- A trip raises two segments' positions by the rows of its chunk that are theirs. -/
theorem tripP_le (h1 : k0_chk1 (BitVec.ofNat 32 a) (BitVec.ofNat 32 b)) (h2) (P : Vec Ideal S16x3 .f32) (s : Fin 16) (j : Fin 3) (z : EReal) :
    tripP (k0_pay23 (F := Ideal) x3) (BitVec.ofNat 32 a) (BitVec.ofNat 32 b) h1 rows512 x2 k h2 P (ix2 s j) ≤ z
      ↔ P (ix2 s j) ≤ z ∧ Trip q a k.val s.val fun m => VP x2 m j ≤ z := by
  unfold tripP
  have ec := cut_eq T ha k hk
  have en := next_eq T ha k hk
  have es := seg_eq ha k hk
  have hc := below_le q (a + k.val + 1)
  have hd := below_le q (a + k.val + 2)
  generalize cut (k0_pay23 (F := Ideal) x3) (BitVec.ofNat 32 a) (BitVec.ofNat 32 b) k = w at ec h2 ⊢
  subst ec
  rw [en, es]
  exact trip_rows T (VP x2) P _ _ a k.val (off_early ha k hk) (off_late ha k hk) _ _
    (fun row => k0_pay1 _ _ row) (fun row => k0_pay4 _ _ _ _ _ row) j z
    (fun row => early_row T _ _ (by omega) hc (fun r j => posn_apply x2 (by omega) h2 r j) row _ _ _ _ j z)
    (fun row => late_row _ _ hc hd (fun r j => posn_apply x2 (by omega) h2 r j) row _ _ _ _ j z) s

end

end Cert.Proof.KI
-- ==== Proof.KI.Out.lean ====
/- What a block leaves in the maxima: each segment raised by the block's rows of it. -/
module

public import proofs.«01_k».proof.Proof.KI.Block

@[expose] public section

set_option maxRecDepth 16384

noncomputable section

namespace Cert.Proof.KI

open Cert.KernelIdeal Cert.KernelIdeal.Gen
open Idealize.ShloMosaic

section
variable {x3 : Vec Ideal S1x16x512 .i32} {q : ℕ → ℕ} (T : Table (k0_pay23 (F := Ideal) x3) q)
  (x1 : Vec Ideal S8192x128 .f32) (x2 : Vec Ideal S8192x3 .f32) (w1 : Vec Ideal S128x128 .f32) (b1 : Vec Ideal S1x128 .f32) (w2 : Vec Ideal S128x256 .f32) (b2 : Vec Ideal S1x256 .f32)
include T

omit T in
/-- The trips before one more. -/
theorem trips_succ {n : ℕ} {A : Prop} {B : ℕ → Prop} : (A ∧ ∀ k, k < n → B k) ∧ B n ↔ A ∧ ∀ k, k < n + 1 → B k := by
  rw [and_assoc]
  refine and_congr Iff.rfl ⟨fun h k hk => ?_, fun h => ⟨fun k hk => h k (by omega), h n (by omega)⟩⟩
  rcases Nat.lt_succ_iff_lt_or_eq.1 hk with h' | h'
  · exact h.1 k h'
  · exact h' ▸ h.2

/-- Every trip of a sorted block runs, its boundary's segment being one and its chunk in the block. -/
theorem trip_ok {a b : ℕ} (ea : a = q 0) (eb : b = q 8191) {n : ℕ} (hn : n + 1 ≤ b - a) :
    ∃ hk : n < (k0_t1_loop (BitVec.ofNat 32 a) (BitVec.ofNat 32 b)).trips, k0_chk2 (cut (k0_pay23 (F := Ideal) x3) (BitVec.ofNat 32 a) (BitVec.ofNat 32 b) ⟨n, hk⟩) := by
  obtain ⟨h, hw⟩ := words_of_table T
  rw [lo_eq T, hi_eq T, ← ea, ← eb] at hw
  have hb : b < 16 := eb ▸ T.lt _
  have ht := trips_of ⟨a, by omega⟩ ⟨b, hb⟩ (by show a ≤ b; omega)
  have hlt : n < b - a := by omega
  exact ⟨lt_of_lt_of_eq hlt ht.symm, hw _⟩

/-- The feature maxima after the first `n` trips. -/
theorem accX_le {a b : ℕ} (ea : a = q 0) (eb : b = q 8191) (h1 : k0_chk1 (BitVec.ofNat 32 a) (BitVec.ofNat 32 b)) (X : Vec Ideal S16x256 .f32) (s : Fin 16) (j : Fin 256) (z : EReal) : ∀ n, n ≤ b - a →
    (accX (k0_pay23 (F := Ideal) x3) (BitVec.ofNat 32 a) (BitVec.ofNat 32 b) h1 rows512 x1 w1 b1 w2 b2 X n (ix2 s j) ≤ z
      ↔ X (ix2 s j) ≤ z ∧ ∀ k, k < n → Trip q a k s.val fun m => VX x1 w1 b1 w2 b2 m j ≤ z)
  | 0, _ => by simp [accX]
  | n + 1, hn => by
    have hb : b < 16 := eb ▸ T.lt _
    have hok := trip_ok T ea eb hn
    rw [accX, dif_pos hok, tripX_le T x1 w1 b1 w2 b2 (by omega) ⟨n, hok.1⟩ (by show a + n + 1 < 16; omega), accX_le ea eb h1 X s j z n (by omega)]
    exact trips_succ (B := fun k => Trip q a k s.val fun m => VX x1 w1 b1 w2 b2 m j ≤ z)

/-- The position maxima after the first `n` trips. -/
theorem accP_le {a b : ℕ} (ea : a = q 0) (eb : b = q 8191) (h1 : k0_chk1 (BitVec.ofNat 32 a) (BitVec.ofNat 32 b)) (P : Vec Ideal S16x3 .f32) (s : Fin 16) (j : Fin 3) (z : EReal) : ∀ n, n ≤ b - a →
    (accP (k0_pay23 (F := Ideal) x3) (BitVec.ofNat 32 a) (BitVec.ofNat 32 b) h1 rows512 x2 P n (ix2 s j) ≤ z
      ↔ P (ix2 s j) ≤ z ∧ ∀ k, k < n → Trip q a k s.val fun m => VP x2 m j ≤ z)
  | 0, _ => by simp [accP]
  | n + 1, hn => by
    have hb : b < 16 := eb ▸ T.lt _
    have hok := trip_ok T ea eb hn
    rw [accP, dif_pos hok, tripP_le T x2 (by omega) ⟨n, hok.1⟩ (by show a + n + 1 < 16; omega), accP_le ea eb h1 P s j z n (by omega)]
    exact trips_succ (B := fun k => Trip q a k s.val fun m => VP x2 m j ≤ z)

/-- What a block's first and last segment make of the loop's bounds. -/
theorem bounds_ok : k0_chk1 (BitVec.ofNat 32 (q 0)) (BitVec.ofNat 32 (q 8191))
    ∧ (k0_t1_loop (BitVec.ofNat 32 (q 0)) (BitVec.ofNat 32 (q 8191))).trips = q 8191 - q 0 :=
  have hle := T.mono (show 0 ≤ 8191 by omega)
  ⟨chk1_of ⟨q 0, T.lt _⟩ ⟨q 8191, T.lt _⟩ hle, trips_of ⟨q 0, T.lt _⟩ ⟨q 8191, T.lt _⟩ hle⟩

/-- A block raises each segment's features to those of its rows. -/
theorem outX_le (X : Vec Ideal S16x256 .f32) (s : Fin 16) (j : Fin 256) (z : EReal) :
    outX x1 x3 w1 b1 w2 b2 X (ix2 s j) ≤ z ↔ X (ix2 s j) ≤ z ∧ ∀ n, n < 8192 → q n = s.val → VX x1 w1 b1 w2 b2 n j ≤ z := by
  obtain ⟨h, ht⟩ := bounds_ok T
  rw [← outX_of_words x1 x3 w1 b1 w2 b2 X _ _ _ h rfl (lo_eq T).symm (hi_eq T).symm, ht, accX_le T x1 w1 b1 w2 b2 rfl rfl h _ s j z _ le_rfl,
    statX_le T x1 w1 b1 w2 b2 X s j z 16 le_rfl, and_assoc, ← cover T.mono s.val fun n => VX x1 w1 b1 w2 b2 n j ≤ z]
  simp only [s.isLt, true_imp_iff]

/-- A block raises each segment's positions to those of its rows. -/
theorem outP_le (P : Vec Ideal S16x3 .f32) (s : Fin 16) (j : Fin 3) (z : EReal) :
    outP x2 x3 P (ix2 s j) ≤ z ↔ P (ix2 s j) ≤ z ∧ ∀ n, n < 8192 → q n = s.val → VP x2 n j ≤ z := by
  obtain ⟨h, ht⟩ := bounds_ok T
  rw [← outP_of_words x2 x3 P _ _ _ h rfl (lo_eq T).symm (hi_eq T).symm, ht, accP_le T x2 rfl rfl h _ s j z _ le_rfl,
    statP_le T x2 P s j z 16 le_rfl, and_assoc, ← cover T.mono s.val fun n => VP x2 n j ≤ z]
  simp only [s.isLt, true_imp_iff]

end

end Cert.Proof.KI
-- ==== Proof.KI.Total.lean ====
/- The maxima after each grid point: of the rows seen so far, segment by segment. -/
module

public import proofs.«01_k».proof.Proof.KI.Out
public import proofs.«01_k».proof.Proof.KI.Blocks

@[expose] public section

set_option maxRecDepth 16384

noncomputable section

namespace Cert.Proof.KI

open Cert.KernelIdeal Cert.KernelIdeal.Gen
open Idealize.ShloMosaic Idealize.ShloMosaic.TcCoe

/-- Row `n` of the whole arrays. -/
abbrev rowAt (n : ℕ) : Fin 32768 := ⟨min n 32767, by omega⟩

/-- The network's output `j` of row `n`, the arrays and weights as given. -/
def rowX (a0 : Vec Ideal S32768x128 .f32) (a3 : Vec Ideal S128x128 .f32) (a4 : Vec Ideal S128 .f32) (a5 : Vec Ideal S128x256 .f32) (a6 : Vec Ideal S256 .f32)
    (n : ℕ) (j : Fin 256) : EReal :=
  feat (fun i => a0 (ix2 (rowAt n) i)) (fun i k => a3 (ix2 i k)) (fun k => a4 (ix1 k)) (fun k j => a5 (ix2 k j)) (fun j => a6 (ix1 j)) j

/-- Coordinate `j` of row `n`'s position. -/
def rowP (a1 : Vec Ideal S32768x3 .f32) (n : ℕ) (j : Fin 3) : EReal := a1 (ix2 (rowAt n) j)

variable (m : (ℓ : Loc nD τ sig) → Buf (Elt Ideal) ℓ)

/-- Row `n`'s outputs, of the launched arguments. -/
abbrev HX (c : Dev nD) : ℕ → Fin 256 → EReal :=
  rowX (m ((c : Thread nD τ).loc main_arg0)) (m ((c : Thread nD τ).loc main_arg3)) (m ((c : Thread nD τ).loc main_arg4)) (m ((c : Thread nD τ).loc main_arg5)) (m ((c : Thread nD τ).loc main_arg6))

/-- Row `n`'s position, of the launched argument. -/
abbrev HP (c : Dev nD) : ℕ → Fin 3 → EReal := rowP (m ((c : Thread nD τ).loc main_arg1))

/-- A block's row is a row of the whole array. -/
theorem row_eq (t : Fin cfg0.N) {n : ℕ} (hn : n < 8192) : rowOf t (at8 n) = rowAt (8192 * t.val + n) := by
  have ht := point_lt t
  refine Fin.ext ?_
  show 8192 * t.val + n % 8192 = min (8192 * t.val + n) 32767
  omega

/-- The network of a block's row is that of the row of the whole array. -/
theorem block_X (c : Dev nD) (t : Fin cfg0.N) {n : ℕ} (hn : n < 8192) (j : Fin 256) :
    VX (b0 m c t) (b3 m c t) (b4 m c t) (b5 m c t) (b6 m c t) n j = HX m c (8192 * t.val + n) j := by
  unfold VX HX rowX featK
  simp only [b0_apply, b3_apply, b4_apply, b5_apply, b6_apply, row_eq t hn]

/-- The position of a block's row likewise. -/
theorem block_P (c : Dev nD) (t : Fin cfg0.N) {n : ℕ} (hn : n < 8192) (j : Fin 3) :
    VP (b1 m c t) n j = HP m c (8192 * t.val + n) j := by
  unfold VP HP rowP
  rw [b1_apply, row_eq t hn]

/-- The maxima start from minus infinity. -/
theorem fill_X (i : S16x256.Idx) : k0_pay21 (F := Ideal) i = (⊥ : EReal) := ofBits_bot
theorem fill_P (i : S16x3.Idx) : k0_pay22 (F := Ideal) i = (⊥ : EReal) := ofBits_bot

/-- The rows of the points before, and of one point more. -/
theorem rows_succ (t : ℕ) (Q : ℕ → Prop) : ((∀ r, r < 8192 * t → Q r) ∧ ∀ n, n < 8192 → Q (8192 * t + n)) ↔ ∀ r, r < 8192 * (t + 1) → Q r := by
  refine ⟨fun h r hr => ?_, fun h => ⟨fun r hr => h r (by omega), fun n hn => h _ (by omega)⟩⟩
  by_cases h' : r < 8192 * t
  · exact h.1 r h'
  · have e := h.2 (r - 8192 * t) (by omega)
    rwa [show 8192 * t + (r - 8192 * t) = r by omega] at e

section
variable {m} {c : Dev nD} (S : Sorted (segs m c))
include S

/-- A point raises each segment's features to those of its rows of that segment. -/
theorem stepX_le (t : Fin cfg0.N) (X : Vec Ideal S16x256 .f32) (s : Fin 16) (j : Fin 256) (z : EReal) :
    stepX m c t X (ix2 s j) ≤ z ↔ X (ix2 s j) ≤ z ∧ ∀ n, n < 8192 → Seg (segs m c) (8192 * t.val + n) = s.val → HX m c (8192 * t.val + n) j ≤ z := by
  refine (outX_le (table_of_sorted m S t) _ _ _ _ _ X s j z).trans (and_congr Iff.rfl (forall_congr' fun n => forall_congr' fun hn => ?_))
  rw [block_X m c t hn]

/-- A point raises each segment's positions to those of its rows of that segment. -/
theorem stepP_le (t : Fin cfg0.N) (P : Vec Ideal S16x3 .f32) (s : Fin 16) (j : Fin 3) (z : EReal) :
    stepP m c t P (ix2 s j) ≤ z ↔ P (ix2 s j) ≤ z ∧ ∀ n, n < 8192 → Seg (segs m c) (8192 * t.val + n) = s.val → HP m c (8192 * t.val + n) j ≤ z := by
  refine (outP_le (table_of_sorted m S t) _ P s j z).trans (and_congr Iff.rfl (forall_congr' fun n => forall_congr' fun hn => ?_))
  rw [block_P m c t hn]

/-- The feature maxima after a point are those of the rows up to it. -/
theorem held_X (s : Fin 16) (j : Fin 256) (z : EReal) : ∀ (n : ℕ) (h : n < cfg0.N),
    (held0 m c n h).1 (ix2 s j) ≤ z ↔ ∀ r, r < 8192 * (n + 1) → Seg (segs m c) r = s.val → HX m c r j ≤ z
  | 0, h => by
    rw [held0]
    dsimp only
    rw [stepX_le S, fill_X, ← rows_succ 0 fun r => Seg (segs m c) r = s.val → HX m c r j ≤ z]
    exact and_congr (iff_of_true (bot_le (a := z)) fun r hr => absurd hr (by omega)) Iff.rfl
  | n + 1, h => by
    rw [held0]
    dsimp only
    rw [stepX_le S, held_X s j z n, ← rows_succ (n + 1) fun r => Seg (segs m c) r = s.val → HX m c r j ≤ z]

/-- The position maxima after a point are those of the rows up to it. -/
theorem held_P (s : Fin 16) (j : Fin 3) (z : EReal) : ∀ (n : ℕ) (h : n < cfg0.N),
    (held0 m c n h).2 (ix2 s j) ≤ z ↔ ∀ r, r < 8192 * (n + 1) → Seg (segs m c) r = s.val → HP m c r j ≤ z
  | 0, h => by
    rw [held0]
    dsimp only
    rw [stepP_le S, fill_P, ← rows_succ 0 fun r => Seg (segs m c) r = s.val → HP m c r j ≤ z]
    exact and_congr (iff_of_true (bot_le (a := z)) fun r hr => absurd hr (by omega)) Iff.rfl
  | n + 1, h => by
    rw [held0]
    dsimp only
    rw [stepP_le S, held_P s j z n, ← rows_succ (n + 1) fun r => Seg (segs m c) r = s.val → HP m c r j ≤ z]

end

end Cert.Proof.KI
-- ==== Proof.KI.Ref.lean ====
/- The reference, read: each segment's maximum over the rows of it. -/
module

public import proofs.«01_k».proof.Proof.KI.Total
public import proofs.«01_k».proof.Proof.Gen.ReferenceIdeal.Read

@[expose] public section

set_option maxRecDepth 16384

noncomputable section

namespace Cert.Proof.KI

open Cert.KernelIdeal Cert.KernelIdeal.Gen
open Idealize.ShloMosaic Idealize.ShloMosaic.TcCoe
open Cert.ReferenceIdeal.Read

variable (x0 : Vec Ideal S32768x128 .f32) (x1 : Vec Ideal S32768x3 .f32) (x2 : Vec Ideal S32768 .i32) (x3 : Vec Ideal S128x128 .f32) (x4 : Vec Ideal S128 .f32)
  (x5 : Vec Ideal S128x256 .f32) (x6 : Vec Ideal S256 .f32)

/-- The network of the reference, at row `r`. -/
theorem ref_row (r : Fin 32768) (j : Fin 256) : val_main_v9 x0 x3 x4 x5 x6 (ix2 r j) = rowX x0 x3 x4 x5 x6 r.val j := by
  have e : rowAt r.val = r := Fin.ext (by show min r.val 32767 = r.val; omega)
  unfold rowX
  rw [e]
  pointwise [val_main_v9, val_main_v8, val_main_v7, val_main_v6, val_main_v5, val_main_v4, val_main_v3, val_main_v2, val_main_v1, val_main_v0, val_main_cst]
  rfl

/-- The position of row `r`. -/
theorem row_P (r : Fin 32768) (j : Fin 3) : rowP x1 r.val j = x1 (ix2 r j) := by
  have e : rowAt r.val = r := Fin.ext (by show min r.val 32767 = r.val; omega)
  unfold rowP
  rw [e]

/-- Whether a row counts for a segment: its word is the segment's. -/
theorem counts (S : Sorted x2) (s : Fin 16) (r : Fin 32768) : (IntOp.cmpi .eq (BitVec.ofNat 32 s.val) (x2 (ix1 r)) = 1#1) ↔ Seg x2 r.val = s.val := by
  have e : rowAt r.val = r := Fin.ext (by show min r.val 32767 = r.val; omega)
  have es : Seg x2 r.val = (x2 (ix1 r)).toNat := by
    unfold Seg
    rw [show (⟨min r.val 32767, by omega⟩ : Fin 32768) = r from e]
  rw [IntOp.cmpi_eq, es]
  refine ⟨fun h => ?_, fun h => BitVec.eq_of_toNat_eq ?_⟩
  · rw [← h, BitVec.toNat_ofNat, Nat.mod_eq_of_lt (by omega)]
  · rw [h, BitVec.toNat_ofNat, Nat.mod_eq_of_lt (by omega)]

/-- The select keeps a row's value where it counts, minus infinity where it does not. -/
theorem select_le (b : BitVec 1) (x z : EReal) : (Scalar.select b x (FloatOps.ofBits (F := Ideal) .f32 0xFF800000#32 : EReal)) ≤ z ↔ (b = 1#1 → x ≤ z) := by
  rw [ofBits_bot]
  unfold Scalar.select
  by_cases h : b = 1#1 <;> simp [h]

/-- The rows named by number. -/
theorem rows_iff (Q : ℕ → Prop) : (∀ r : Fin 32768, Q r.val) ↔ ∀ r, r < 8192 * (3 + 1) → Q r :=
  ⟨fun h r hr => h ⟨r, hr⟩, fun h r => h r.val r.isLt⟩

/-- The reference's feature maxima. -/
theorem ref_X (S : Sorted x2) (s : Fin 16) (j : Fin 256) (z : EReal) :
    val_main_v18 x0 x2 x3 x4 x5 x6 (ix2 s j) ≤ z ↔ ∀ r, r < 8192 * (3 + 1) → Seg x2 r = s.val → rowX x0 x3 x4 x5 x6 r j ≤ z := by
  unfold val_main_v18 val_main_cst_1
  rw [host_le, ← rows_iff]
  refine forall_congr' fun r => ?_
  rw [val_main_v17_apply, val_main_call0_v3_apply, val_main_call0_v0_apply, val_main_cst_0_apply, select_le, val_main_call0_v1_apply, val_main_v15_apply,
    val_main_v13_apply, val_main_v11_apply, val_main_v10_apply, val_main_v14_apply, val_main_v12_apply, val_main_call0_v2_apply, val_main_v16_apply]
  have e1 : idx_main_v12 (idx_main_v14 (idx_main_call0_v1 (ix3 s r j))) = ix1 r := by
    funext a; match a with | ⟨0, _⟩ => rfl
  have e2 : idx_main_v16 (idx_main_call0_v2 (ix3 s r j)) = ix2 r j := by
    funext a; match a with | ⟨0, _⟩ => rfl | ⟨1, _⟩ => rfl
  rw [← counts x2 S s r, ← ref_row, e1, e2]
  rfl

/-- The reference's position maxima. -/
theorem ref_P (S : Sorted x2) (s : Fin 16) (j : Fin 3) (z : EReal) :
    val_main_v21 x1 x2 (ix2 s j) ≤ z ↔ ∀ r, r < 8192 * (3 + 1) → Seg x2 r = s.val → rowP x1 r j ≤ z := by
  unfold val_main_v21 val_main_cst_3
  rw [host_le, ← rows_iff]
  refine forall_congr' fun r => ?_
  rw [val_main_v20_apply, val_main_call1_v3_apply, val_main_call1_v0_apply, val_main_cst_2_apply, select_le, val_main_call1_v1_apply, val_main_v15_apply,
    val_main_v13_apply, val_main_v11_apply, val_main_v10_apply, val_main_v14_apply, val_main_v12_apply, val_main_call1_v2_apply, val_main_v19_apply]
  have e1 : idx_main_v12 (idx_main_v14 (idx_main_call1_v1 (ix3 s r j))) = ix1 r := by
    funext a; match a with | ⟨0, _⟩ => rfl
  have e2 : idx_main_v19 (idx_main_call1_v2 (ix3 s r j)) = ix2 r j := by
    funext a; match a with | ⟨0, _⟩ => rfl | ⟨1, _⟩ => rfl
  rw [← counts x2 S s r, e1, e2, row_P]
  rfl

end Cert.Proof.KI
-- ==== Proof.KI.Value.lean ====
/- The kernel and the reference compute the same results. -/
module

public import proofs.«01_k».proof.Proof.KI.Ref
public import proofs.«01_k».proof.Proof.Gen.ReferenceIdeal.Run
public import proofs.«01_k».proof.Proof.Gen.Pre_sorted_segments
public import proofs.«01_k».proof.Defs

@[expose] public section

set_option maxRecDepth 16384

noncomputable section

namespace Cert.Proof.KI

open Cert.KernelIdeal Cert.KernelIdeal.Gen
open Idealize.ShloMosaic Idealize.ShloMosaic.TcCoe
open Cert.ReferenceIdeal.Read

open Idealize.SL.Sem Idealize.ShloMosaic.Tactic Idealize.ShloMosaic.Pipeline

variable (m : (ℓ : Loc nD τ sig) → Buf (Elt Ideal) ℓ)

/-- The last point writes each result whole. -/
theorem whole_7 : (cfg0.win 7).WholeAt t0_3 := by decide +kernel
theorem whole_8 : (cfg0.win 8).WholeAt t0_3 := by decide +kernel

/-- The feature array ends as the last point leaves it. -/
theorem array_7 {c : Dev nD} (D : Dat τ (Elt Ideal) Unit ℕ (UR sig nD τ) ℕ cfg0 c) (X : Vec Ideal S16x256 .f32) (hX : D.after 7 t0_3 = X) : D.arrAt 7 cfg0.N = X := by
  refine D.arrAt_eq_of_after_last 7 t0_3 whole_7 _ fun j => ?_
  rw [hX]
  blk_simp
  exact congrArg X rfl

/-- The position array ends as the last point leaves it. -/
theorem array_8 {c : Dev nD} (D : Dat τ (Elt Ideal) Unit ℕ (UR sig nD τ) ℕ cfg0 c) (X : Vec Ideal S16x3 .f32) (hX : D.after 8 t0_3 = X) : D.arrAt 8 cfg0.N = X := by
  refine D.arrAt_eq_of_after_last 8 t0_3 whole_8 _ fun j => ?_
  rw [hX]
  blk_simp
  exact congrArg X rfl

section
variable (ds : (p : Fin 1) → (c : Dev nD) → Dat τ (Elt Ideal) Unit ℕ (UR sig nD τ) ℕ (cfgs p) c)

/-- The segments' own numbers, written after the launch. -/
theorem tail_main_v4 (c : Dev nD) : Pipeline.afterTail₀ cfgs ds 0 (V0 m) [hostOps1] c main_v4 = iotaInDim S16 32 0 := by
  unfold Pipeline.afterTail₀
  simp only [hostOps1, List.flatten_cons, List.flatten_nil, List.append_nil, StableHlo.after_cons, StableHlo.after_nil]
  exact StableHlo.nullary_result ..

/-- What a run leaves in its results, of what the last point leaves. -/
theorem results_of (ρ : Dev nD → PrngReg) (X : Dev nD → Vec Ideal S16x256 .f32) (P : Dev nD → Vec Ideal S16x3 .f32)
    (hX : ∀ c, (ds 0 c).after 7 t0_3 = X c) (hP : ∀ c, (ds 0 c).after 8 t0_3 = P c)
    (h : θ_run defs (onTc (τ := τ) (main (F := Ideal))) (s₀ m ρ) (Pipeline.FramePost cfgs ds 0 (Pipeline.afterTail₀ cfgs ds 0 (V0 m) [hostOps1]))) :
    θ_run defs (onTc (τ := τ) (main (F := Ideal))) ⟨m, fun _ => 0, ρ⟩ (fun r => ∀ c : Dev nD,
      r.2.mem ((c : Thread nD τ).loc main_v3_0) = X c ∧ r.2.mem ((c : Thread nD τ).loc main_v3_1) = P c
      ∧ r.2.mem ((c : Thread nD τ).loc main_v4) = iotaInDim S16 32 0) :=
  (θ_run defs _ _).mono (fun _ h c => ⟨((h c).1 7).trans (array_7 (ds 0 c) _ (hX c)), ((h c).1 8).trans (array_8 (ds 0 c) _ (hP c)),
    ((h c).2 main_v4 (Pipeline.mem_restRefs_of main_v4 (by decide) (by decide))).trans (tail_main_v4 m ds c)⟩) h

end

/-- What the kernel's run leaves in its results. -/
theorem results (ρ : Dev nD → PrngReg) (hW : ∀ c t, Words (F := Ideal) (b2 m c t)) :
    θ_run defs (onTc (τ := τ) (main (F := Ideal))) ⟨m, fun _ => 0, ρ⟩ (fun r => ∀ c : Dev nD,
      r.2.mem ((c : Thread nD τ).loc main_v3_0) = (held0 m c t0_3.val t0_3.isLt).1
      ∧ r.2.mem ((c : Thread nD τ).loc main_v3_1) = (held0 m c t0_3.val t0_3.isLt).2
      ∧ r.2.mem ((c : Thread nD τ).loc main_v4) = iotaInDim S16 32 0) :=
  results_of m (dats m) ρ _ _ (fun c => after_7 m c t0_3) (fun c => after_8 m c t0_3) ((θ_run defs _ _).mono (fun _ h => h.1) (run_main m ρ hW))

/-- From equal arguments, with sorted segments, the kernel and the reference end with equal results. -/
theorem algebraic : @Cert.algebraic_KernelIdeal_ReferenceIdeal Cert.KernelIdeal.Gen.facts Cert.ReferenceIdeal.Gen.facts Cert.Pre_sorted_segments.Gen.facts := by
  intro m g m' g' hP hargs
  have S : ∀ c, Sorted (segs m c) := fun c => sorted_of_pre (hP c)
  have hW := words_of_sorted (F := Ideal) m S
  refine ⟨fun c => (held0 m c t0_3.val t0_3.isLt).1, fun c => (held0 m c t0_3.val t0_3.isLt).2, fun c => iotaInDim S16 32 0, ?_, ?_⟩
  · exact (θ_run defs _ _).mono (fun r h c => ⟨(h.1 c).1, (h.1 c).2.1, (h.1 c).2.2, h.2.1 c⟩) (θ_run_and (results m g hW) (frame m g hW))
  · refine (θ_run Cert.ReferenceIdeal.defs _ _).mono (fun r h c => ?_) (Cert.ReferenceIdeal.Value.run (F := Ideal) m' g')
    obtain ⟨e0, e1, e2, e3, e4, e5, e6⟩ := hargs c
    refine ⟨(h c).1.trans ?_, (h c).2.1.trans ?_, (h c).2.2⟩
    · refine (val_main_v18_eq (F := Ideal) _ _ _ _ _ _).trans ?_
      rw [e0, e2, e3, e4, e5, e6]
      funext i
      obtain ⟨s, j, rfl⟩ : ∃ s j, i = ix2 s j := ⟨i 0, i 1, eq_ix2 i⟩
      exact eq_of_forall_ge_iff fun z => (ref_X _ _ _ _ _ _ (S c) s j z).trans (held_X (S c) s j z 3 _).symm
    · refine (val_main_v21_eq (F := Ideal) _ _).trans ?_
      rw [e1, e2]
      funext i
      obtain ⟨s, j, rfl⟩ : ∃ s j, i = ix2 s j := ⟨i 0, i 1, eq_ix2 i⟩
      exact eq_of_forall_ge_iff fun z => (ref_P _ _ (S c) s j z).trans (held_P (S c) s j z 3 _).symm

end Cert.Proof.KI
-- ==== Proof.lean ====
/- The claim's conjuncts, gathered. -/
module

public import proofs.«01_k».proof.Defs
public import proofs.«01_k».proof.Proof.Same
public import proofs.«01_k».proof.Proof.KI.Value
public import proofs.«01_k».proof.Proof.Gen.ReferenceIdeal.Run
public import proofs.«01_k».proof.Proof.Gen.ReferenceIdeal.Read
public import proofs.«01_k».proof.Proof.Gen.Pre_sorted_segments

@[expose] public section

set_option maxRecDepth 16384

namespace Cert.Proof

open Idealize.ShloMosaic Idealize.SL.Sem

/-- The reference leaves its arguments as they were; it declares no semaphore. -/
theorem quiescent_reference : @Cert.quiescent_ReferenceIdeal Cert.ReferenceIdeal.Gen.facts := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- All the claims, with the facts that the programs state about themselves. -/
theorem claim : Cert.Claim := ⟨Cert.Kernel.Gen.facts, Cert.KernelIdeal.Gen.facts, Cert.ReferenceIdeal.Gen.facts, Cert.Pre_sorted_segments.Gen.facts,
  Same.quiescent_kernel, Same.quiescent_kernelIdeal, quiescent_reference,
  fun m g _ => quiescent_reference m g trivial, trivial, KI.algebraic⟩

end Cert.Proof
